-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_normal_scales [hPre_normal_scales : Cert.Pre_normal_scales.Facts] (m : (ℓ : Loc Cert.KernelIdeal.nD Cert.KernelIdeal.τ Cert.KernelIdeal.sig) → Buf (Elt Ideal) ℓ) : Prop :=
  ∀ c : Dev Cert.KernelIdeal.nD,
    (Cert.Pre_normal_scales.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_normal_scales [hPre_normal_scales : Cert.Pre_normal_scales.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_normal_scales.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_normal_scales [hKernelIdeal : Cert.KernelIdeal.Facts] [hPre_normal_scales : Cert.Pre_normal_scales.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_normal_scales m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_normal_scales [hReferenceIdeal : Cert.ReferenceIdeal.Facts] [hPre_normal_scales : Cert.Pre_normal_scales.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_normal_scales m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_normal_scales [hKernelIdeal : Cert.KernelIdeal.Facts] [hReferenceIdeal : Cert.ReferenceIdeal.Facts] [hPre_normal_scales : Cert.Pre_normal_scales.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_normal_scales m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v9)) (v1 : (c : Dev Cert.KernelIdeal.nD) → Buf (Elt Ideal) ((c.tc : Thread Cert.KernelIdeal.nD Cert.KernelIdeal.τ).loc Cert.KernelIdeal.main_v11)) (v2 : (c : Dev Cert.KernelIdeal.nD) → Buf (Elt Ideal) ((c.tc : Thread Cert.KernelIdeal.nD Cert.KernelIdeal.τ).loc Cert.KernelIdeal.main_v7_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_v11) = v1 c
          ∧ r.2.mem ((c.tc : Thread Cert.KernelIdeal.nD Cert.KernelIdeal.τ).loc Cert.KernelIdeal.main_v7_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_normal_scales : Cert.Pre_normal_scales.Facts),
    quiescent_Kernel (hKernel := hKernel)
    ∧ quiescent_KernelIdeal (hKernelIdeal := hKernelIdeal)
    ∧ quiescent_KernelIdeal_pre_normal_scales (hKernelIdeal := hKernelIdeal) (hPre_normal_scales := hPre_normal_scales)
    ∧ quiescent_ReferenceIdeal (hReferenceIdeal := hReferenceIdeal)
    ∧ quiescent_ReferenceIdeal_pre_normal_scales (hReferenceIdeal := hReferenceIdeal) (hPre_normal_scales := hPre_normal_scales)
    ∧ preserves_Kernel_KernelIdeal
    ∧ algebraic_KernelIdeal_ReferenceIdeal_pre_normal_scales (hKernelIdeal := hKernelIdeal) (hReferenceIdeal := hReferenceIdeal) (hPre_normal_scales := hPre_normal_scales)
-- ==== Pre_normal_scales.lean ====
abbrev S2x8x12x2560 : Shape := ⟨4, ![2, 8, 12, 2560]⟩
abbrev S3x3x2560x1280 : Shape := ⟨4, ![3, 3, 2560, 1280]⟩
abbrev S1280 : Shape := ⟨1, ![1280]⟩
abbrev S3x3x2560x64 : Shape := ⟨4, ![3, 3, 2560, 64]⟩
abbrev S64x1280 : Shape := ⟨2, ![64, 1280]⟩
abbrev S_ : Shape := ⟨0, ![]⟩
abbrev S2x8x12 : Shape := ⟨3, ![2, 8, 12]⟩

class Facts : Prop where
  bitsLt_bf16_f32 : FTy.bits .bf16 < FTy.bits .f32
  reducesTo_S2x8x12x2560_S2x8x12_d3 : S2x8x12x2560.ReducesTo [3] S2x8x12
  h_S_ : 0 < S_.numel
  bcast_S_S2x8x12 : S_.BroadcastsInDim S2x8x12 (![] : Fin 0 → Fin S2x8x12.rank)

variable [Facts]

def fn {F : FTy → Type} [FloatOps F] (main_arg0 : FVec F S2x8x12x2560 .bf16) (main_arg1 : FVec F S3x3x2560x1280 .fp8e4m3) (main_arg2 : FVec F S1280 .f32) (main_arg3 : FVec F S1280 .f32) (main_arg4 : FVec F S3x3x2560x64 .bf16) (main_arg5 : FVec F S64x1280 .bf16) : IVec S2x8x12 1 :=
  let main_v0 : FVec F S2x8x12x2560 .f32 := (extf .f32 · bitsLt_bf16_f32) main_arg0
  let main_v1 : FVec F S2x8x12x2560 .f32 := Host.absf main_v0
  let main_cst : FVec F S_ .f32 := constant S_ .f32 0xFF800000#32
  let main_v2 : FVec F S2x8x12 .f32 := (fun x v => Host.reduce FloatOps.maximumf x v reducesTo_S2x8x12x2560_S2x8x12_d3 h_S_) main_v1 main_cst
  let main_cst_0 : FVec F S_ .f32 := constant S_ .f32 0x00000000#32
  let main_v3 : FVec F S2x8x12 .f32 := broadcastInDim S2x8x12 ![] bcast_S_S2x8x12 main_cst_0
  let main_v4 : IVec S2x8x12 1 := cmpf .oeq main_v2 main_v3
  let main_cst_1 : FVec F S_ .f32 := constant S_ .f32 0x3B124925#32
  let main_v5 : FVec F S2x8x12 .f32 := broadcastInDim S2x8x12 ![] bcast_S_S2x8x12 main_cst_1
  let main_v6 : FVec F S2x8x12 .f32 := mulf main_v2 main_v5
  let main_cst_2 : FVec F S_ .f32 := constant S_ .f32 0x00800000#32
  let main_v7 : FVec F S2x8x12 .f32 := broadcastInDim S2x8x12 ![] bcast_S_S2x8x12 main_cst_2
  let main_v8 : IVec S2x8x12 1 := cmpf .oge main_v6 main_v7
  let main_cst_3 : FVec F S_ .f32 := constant S_ .f32 0x7F7F0000#32
  let main_v9 : FVec F S2x8x12 .f32 := broadcastInDim S2x8x12 ![] bcast_S_S2x8x12 main_cst_3
  let main_v10 : IVec S2x8x12 1 := cmpf .ole main_v2 main_v9
  let main_v11 : IVec S2x8x12 1 := andi main_v8 main_v10
  let main_v12 : IVec S2x8x12 1 := ori main_v4 main_v11
  main_v12
-- ==== Kernel.lean ====
abbrev S2x8x12x2560 : Shape := ⟨4, ![2, 8, 12, 2560]⟩
abbrev S3x3x2560x1280 : Shape := ⟨4, ![3, 3, 2560, 1280]⟩
abbrev S1280 : Shape := ⟨1, ![1280]⟩
abbrev S3x3x2560x64 : Shape := ⟨4, ![3, 3, 2560, 64]⟩
abbrev S64x1280 : Shape := ⟨2, ![64, 1280]⟩
abbrev S2x12x8x2560 : Shape := ⟨4, ![2, 12, 8, 2560]⟩
abbrev S192x2560 : Shape := ⟨2, ![192, 2560]⟩
abbrev S9x2560x1280 : Shape := ⟨3, ![9, 2560, 1280]⟩
abbrev S1x1280 : Shape := ⟨2, ![1, 1280]⟩
abbrev S3x3x64x2560 : Shape := ⟨4, ![3, 3, 64, 2560]⟩
abbrev S576x2560 : Shape := ⟨2, ![576, 2560]⟩
abbrev S192x1280 : Shape := ⟨2, ![192, 1280]⟩
abbrev S24x8x2560 : Shape := ⟨3, ![24, 8, 2560]⟩
abbrev S2x8x12 : Shape := ⟨3, ![2, 8, 12]⟩
abbrev S45x2560x256 : Shape := ⟨3, ![45, 2560, 256]⟩
abbrev S3x192x128 : Shape := ⟨3, ![3, 192, 128]⟩
abbrev S2x12x8x256 : Shape := ⟨4, ![2, 12, 8, 256]⟩
abbrev S2x12x8x128 : Shape := ⟨4, ![2, 12, 8, 128]⟩
abbrev S192x128 : Shape := ⟨2, ![192, 128]⟩
abbrev S5x192x256 : Shape := ⟨3, ![5, 192, 256]⟩
abbrev S5 : Shape := ⟨1, ![5]⟩
abbrev S45 : Shape := ⟨1, ![45]⟩
abbrev S2 : Shape := ⟨1, ![2]⟩
abbrev S1 : Shape := ⟨1, ![1]⟩
abbrev S_ : Shape := ⟨0, ![]⟩
abbrev S1x2560x256 : Shape := ⟨3, ![1, 2560, 256]⟩
abbrev S2560x256 : Shape := ⟨2, ![2560, 256]⟩
abbrev S8x128 : Shape := ⟨2, ![8, 128]⟩
abbrev S32x2560 : Shape := ⟨2, ![32, 2560]⟩
abbrev S32 : Shape := ⟨1, ![32]⟩
abbrev S32x1 : Shape := ⟨2, ![32, 1]⟩
abbrev S32x256 : Shape := ⟨2, ![32, 256]⟩
abbrev S32x128 : Shape := ⟨2, ![32, 128]⟩
abbrev S1x32x128 : Shape := ⟨3, ![1, 32, 128]⟩
abbrev S8x2560 : Shape := ⟨2, ![8, 2560]⟩
abbrev S1x8x2560 : Shape := ⟨3, ![1, 8, 2560]⟩
abbrev S1x192x128 : Shape := ⟨3, ![1, 192, 128]⟩
abbrev S1x8x128 : Shape := ⟨3, ![1, 8, 128]⟩
abbrev S8x12 : Shape := ⟨2, ![8, 12]⟩
abbrev S1x8x12 : Shape := ⟨3, ![1, 8, 12]⟩
abbrev S256x2560 : Shape := ⟨2, ![256, 2560]⟩
abbrev S192x256 : Shape := ⟨2, ![192, 256]⟩
abbrev S64x2560 : Shape := ⟨2, ![64, 2560]⟩
abbrev S192x64 : Shape := ⟨2, ![192, 64]⟩
abbrev S24x8x128 : Shape := ⟨3, ![24, 8, 128]⟩
abbrev S2x11x8x128 : Shape := ⟨4, ![2, 11, 8, 128]⟩
abbrev S24x8x256 : Shape := ⟨3, ![24, 8, 256]⟩
abbrev S2x11x8x256 : Shape := ⟨4, ![2, 11, 8, 256]⟩
abbrev S64x256 : Shape := ⟨2, ![64, 256]⟩
abbrev S1x256 : Shape := ⟨2, ![1, 256]⟩
abbrev S1x192x256 : Shape := ⟨3, ![1, 192, 256]⟩
abbrev S2x12x8x1280 : Shape := ⟨4, ![2, 12, 8, 1280]⟩
abbrev S2x8x12x1280 : Shape := ⟨4, ![2, 8, 12, 1280]⟩

abbrev nBuf : Space → Nat
  | .hbm => 20
  | .vmem => 15
  | .smem => 0
  | _ => 0

abbrev bufTy : (tb : Table) → Fin (tcTables nBuf tb) → BufTy
  | .hbm, ⟨0, _⟩ => ⟨S2x8x12x2560, .bf16⟩
  | .hbm, ⟨1, _⟩ => ⟨S3x3x2560x1280, .fp8e4m3⟩
  | .hbm, ⟨2, _⟩ => ⟨S1280, .f32⟩
  | .hbm, ⟨3, _⟩ => ⟨S1280, .f32⟩
  | .hbm, ⟨4, _⟩ => ⟨S3x3x2560x64, .bf16⟩
  | .hbm, ⟨5, _⟩ => ⟨S64x1280, .bf16⟩
  | .hbm, ⟨6, _⟩ => ⟨S2x12x8x2560, .bf16⟩
  | .hbm, ⟨7, _⟩ => ⟨S192x2560, .bf16⟩
  | .hbm, ⟨8, _⟩ => ⟨S9x2560x1280, .fp8e4m3⟩
  | .hbm, ⟨9, _⟩ => ⟨S1x1280, .f32⟩
  | .hbm, ⟨10, _⟩ => ⟨S1x1280, .f32⟩
  | .hbm, ⟨11, _⟩ => ⟨S3x3x64x2560, .bf16⟩
  | .hbm, ⟨12, _⟩ => ⟨S576x2560, .bf16⟩
  | .hbm, ⟨13, _⟩ => ⟨S192x1280, .bf16⟩
  | .hbm, ⟨14, _⟩ => ⟨S24x8x2560, .fp8e4m3⟩
  | .hbm, ⟨15, _⟩ => ⟨S2x8x12, .f32⟩
  | .hbm, ⟨16, _⟩ => ⟨S2x12x8x1280, .bf16⟩
  | .hbm, ⟨17, _⟩ => ⟨S2x8x12x1280, .bf16⟩
  | .hbm, ⟨18, _⟩ => ⟨S2x12x8x2560, .fp8e4m3⟩
  | .hbm, ⟨19, _⟩ => ⟨S2x8x12x2560, .fp8e4m3⟩
  | .local _ .vmem, ⟨0, _⟩ => ⟨S192x2560, .bf16⟩
  | .local _ .vmem, ⟨1, _⟩ => ⟨S45x2560x256, .fp8e4m3⟩
  | .local _ .vmem, ⟨2, _⟩ => ⟨S1x1280, .f32⟩
  | .local _ .vmem, ⟨3, _⟩ => ⟨S1x1280, .f32⟩
  | .local _ .vmem, ⟨4, _⟩ => ⟨S576x2560, .bf16⟩
  | .local _ .vmem, ⟨5, _⟩ => ⟨S64x1280, .bf16⟩
  | .local _ .vmem, ⟨6, _⟩ => ⟨S192x2560, .fp8e4m3⟩
  | .local _ .vmem, ⟨7, _⟩ => ⟨S24x8x2560, .fp8e4m3⟩
  | .local _ .vmem, ⟨8, _⟩ => ⟨S2x8x12, .f32⟩
  | .local _ .vmem, ⟨9, _⟩ => ⟨S3x192x128, .f32⟩
  | .local _ .vmem, ⟨10, _⟩ => ⟨S2x12x8x256, .f32⟩
  | .local _ .vmem, ⟨11, _⟩ => ⟨S2x12x8x128, .f32⟩
  | .local _ .vmem, ⟨12, _⟩ => ⟨S2x12x8x128, .f32⟩
  | .local _ .vmem, ⟨13, _⟩ => ⟨S192x128, .bf16⟩
  | .local _ .vmem, ⟨14, _⟩ => ⟨S5x192x256, .bf16⟩
  | _, _ => ⟨S2x8x12x2560, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 57 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | _ => false

abbrev sig : RefSig :=
  ofTc nBuf bufTy 0 57 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7_0 : Ref sig .tc := ⟨.hbm, 13, rfl⟩
abbrev main_v7_1 : Ref sig .tc := ⟨.hbm, 14, rfl⟩
abbrev main_v7_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev cc0_scratch5 : Ref sig .tc := ⟨.vmem, 5, rfl⟩
abbrev cc0_scratch6 : Ref sig .tc := ⟨.vmem, 6, rfl⟩
abbrev cc0_scratch7 : Ref sig .tc := ⟨.vmem, 7, rfl⟩
abbrev cc0_scratch8 : Ref sig .tc := ⟨.vmem, 8, rfl⟩
abbrev cc0_scratch9 : Ref sig .tc := ⟨.vmem, 9, rfl⟩
abbrev cc0_scratch10 : Ref sig .tc := ⟨.vmem, 10, rfl⟩
abbrev cc0_scratch11 : Ref sig .tc := ⟨.vmem, 11, rfl⟩
abbrev cc0_scratch12 : Ref sig .tc := ⟨.vmem, 12, rfl⟩
abbrev cc0_scratch13 : Ref sig .tc := ⟨.vmem, 13, rfl⟩
abbrev cc0_scratch14 : Ref sig .tc := ⟨.vmem, 14, rfl⟩

abbrev nD : Nat := 1
abbrev τ : Topo := Topo.v7x

variable {F : FTy → Type} [FloatOps F]

abbrev grid0 : Pipeline.Grid := .none
-- ==== ReferenceIdeal.lean ====
abbrev S2x8x12x2560 : Shape := ⟨4, ![2, 8, 12, 2560]⟩
abbrev S3x3x2560x1280 : Shape := ⟨4, ![3, 3, 2560, 1280]⟩
abbrev S1280 : Shape := ⟨1, ![1280]⟩
abbrev S3x3x2560x64 : Shape := ⟨4, ![3, 3, 2560, 64]⟩
abbrev S64x1280 : Shape := ⟨2, ![64, 1280]⟩
abbrev S2x8x12x1280 : Shape := ⟨4, ![2, 8, 12, 1280]⟩
abbrev S2x8x12 : Shape := ⟨3, ![2, 8, 12]⟩
abbrev S2x8x12x1 : Shape := ⟨4, ![2, 8, 12, 1]⟩
abbrev S1x1x1x254 : Shape := ⟨4, ![1, 1, 1, 254]⟩
abbrev S2x8x12x254 : Shape := ⟨4, ![2, 8, 12, 254]⟩
abbrev S2x1x12x2560 : Shape := ⟨4, ![2, 1, 12, 2560]⟩
abbrev S2x9x12x2560 : Shape := ⟨4, ![2, 9, 12, 2560]⟩
abbrev S2x10x12x2560 : Shape := ⟨4, ![2, 10, 12, 2560]⟩
abbrev S2x10x1x2560 : Shape := ⟨4, ![2, 10, 1, 2560]⟩
abbrev S2x10x13x2560 : Shape := ⟨4, ![2, 10, 13, 2560]⟩
abbrev S2x10x14x2560 : Shape := ⟨4, ![2, 10, 14, 2560]⟩
abbrev S192x1280 : Shape := ⟨2, ![192, 1280]⟩
abbrev S192x2560 : Shape := ⟨2, ![192, 2560]⟩
abbrev S1x1x2560x1280 : Shape := ⟨4, ![1, 1, 2560, 1280]⟩
abbrev S2560x1280 : Shape := ⟨2, ![2560, 1280]⟩
abbrev S1x1x1x1280 : Shape := ⟨4, ![1, 1, 1, 1280]⟩
abbrev S192x64 : Shape := ⟨2, ![192, 64]⟩
abbrev S1x1x2560x64 : Shape := ⟨4, ![1, 1, 2560, 64]⟩
abbrev S2560x64 : Shape := ⟨2, ![2560, 64]⟩
abbrev S2x8x12x64 : Shape := ⟨4, ![2, 8, 12, 64]⟩

abbrev nBuf : Space → Nat
  | .hbm => 9
  | .vmem => 9
  | .smem => 0
  | _ => 0

abbrev bufTy : (tb : Table) → Fin (tcTables nBuf tb) → BufTy
  | .hbm, ⟨0, _⟩ => ⟨S2x8x12x2560, .bf16⟩
  | .hbm, ⟨1, _⟩ => ⟨S3x3x2560x1280, .fp8e4m3⟩
  | .hbm, ⟨2, _⟩ => ⟨S1280, .f32⟩
  | .hbm, ⟨3, _⟩ => ⟨S1280, .f32⟩
  | .hbm, ⟨4, _⟩ => ⟨S3x3x2560x64, .bf16⟩
  | .hbm, ⟨5, _⟩ => ⟨S64x1280, .bf16⟩
  | .hbm, ⟨6, _⟩ => ⟨S2x8x12x1280, .bf16⟩
  | .hbm, ⟨7, _⟩ => ⟨S2x8x12x2560, .fp8e4m3⟩
  | .hbm, ⟨8, _⟩ => ⟨S2x8x12, .f32⟩
  | .local _ .vmem, ⟨0, _⟩ => ⟨S2x8x12x2560, .bf16⟩
  | .local _ .vmem, ⟨1, _⟩ => ⟨S3x3x2560x1280, .fp8e4m3⟩
  | .local _ .vmem, ⟨2, _⟩ => ⟨S1280, .f32⟩
  | .local _ .vmem, ⟨3, _⟩ => ⟨S1280, .f32⟩
  | .local _ .vmem, ⟨4, _⟩ => ⟨S3x3x2560x64, .bf16⟩
  | .local _ .vmem, ⟨5, _⟩ => ⟨S64x1280, .bf16⟩
  | .local _ .vmem, ⟨6, _⟩ => ⟨S2x8x12x1280, .bf16⟩
  | .local _ .vmem, ⟨7, _⟩ => ⟨S2x8x12x2560, .fp8e4m3⟩
  | .local _ .vmem, ⟨8, _⟩ => ⟨S2x8x12, .f32⟩
  | _, _ => ⟨S2x8x12x2560, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .vmem S2x8x12x2560 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3x3x2560x1280 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1280 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1280 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S3x3x2560x64 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S64x1280 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2x8x12x1280 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2x8x12x2560 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S2x8x12 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== Proof.BodyKernel.lean ====
/-
  One run of the kernel's body, every DMA and every wait of it, from its buffers held whole: `kernelRun` names what the three
  results then hold, as functions of what the operands, the results and the scratch buffers held before. The names it makes
  (`kernelRun.sl.…`) are the loads, stores and transfers in program order.
-/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameSuffixV
public import Idealize.ShloMosaic.Lib.Tactic

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [BitOps F]

local notation "𝕄" => MT nD τ sig Unit (Elt F) ℕ (Pipeline.UD sig nD τ) ℕ

/-- The contents of memref `M`'s buffer on core `c`. -/
abbrev Bf (c : Dev nD) {sp : Space} {S : Shape} {e : EltTy} (M : Memref sig .tc sp S e) : Type := Buf (Elt F) (M.view.loc (c : Thread nD τ))
/-- Memref `M`'s buffer on core `c`, held whole at `f`. -/
abbrev pt (c : Dev nD) {sp : Space} {S : Shape} {e : EltTy} (M : Memref sig .tc sp S e) (f : Bf (F := F) c M) : sProp 𝕄 :=
  M.view.loc (c : Thread nD τ) ↦{fullShare} f
/-- A transfer's counter at zero. -/
abbrev cell (c : Dev nD) (k : DmaSem sig) : sProp 𝕄 := semVal ((c : Thread nD τ), SemLoc.dma k) 0

abbrev xH : Memref sig .tc .hbm S192x2560 .bf16 := Memref.whole main_v1
abbrev wH : Memref sig .tc .hbm S9x2560x1280 .fp8e4m3 := Memref.whole main_v2
abbrev wsH : Memref sig .tc .hbm S1x1280 .f32 := Memref.whole main_v3
abbrev bH : Memref sig .tc .hbm S1x1280 .f32 := Memref.whole main_v4
abbrev ldH : Memref sig .tc .hbm S576x2560 .bf16 := Memref.whole main_v6
abbrev luH : Memref sig .tc .hbm S64x1280 .bf16 := Memref.whole main_arg5
abbrev yH : Memref sig .tc .hbm S192x1280 .bf16 := Memref.whole main_v7_0
abbrev xcH : Memref sig .tc .hbm S24x8x2560 .fp8e4m3 := Memref.whole main_v7_1
abbrev xsH : Memref sig .tc .hbm S2x8x12 .f32 := Memref.whole main_v7_2
abbrev xV : Memref sig .tc .vmem S192x2560 .bf16 := Memref.whole cc0_scratch0
abbrev wV : Memref sig .tc .vmem S45x2560x256 .fp8e4m3 := Memref.whole cc0_scratch1
abbrev wsV : Memref sig .tc .vmem S1x1280 .f32 := Memref.whole cc0_scratch2
abbrev bV : Memref sig .tc .vmem S1x1280 .f32 := Memref.whole cc0_scratch3
abbrev ldV : Memref sig .tc .vmem S576x2560 .bf16 := Memref.whole cc0_scratch4
abbrev luV : Memref sig .tc .vmem S64x1280 .bf16 := Memref.whole cc0_scratch5
abbrev codesV : Memref sig .tc .vmem S192x2560 .fp8e4m3 := Memref.whole cc0_scratch6
abbrev xcV : Memref sig .tc .vmem S24x8x2560 .fp8e4m3 := Memref.whole cc0_scratch7
abbrev xsV : Memref sig .tc .vmem S2x8x12 .f32 := Memref.whole cc0_scratch8
abbrev sV : Memref sig .tc .vmem S3x192x128 .f32 := Memref.whole cc0_scratch9
abbrev accV : Memref sig .tc .vmem S2x12x8x256 .f32 := Memref.whole cc0_scratch10
abbrev loV : Memref sig .tc .vmem S2x12x8x128 .f32 := Memref.whole cc0_scratch11
abbrev hiV : Memref sig .tc .vmem S2x12x8x128 .f32 := Memref.whole cc0_scratch12
abbrev dV : Memref sig .tc .vmem S192x128 .bf16 := Memref.whole cc0_scratch13
abbrev yV : Memref sig .tc .vmem S5x192x256 .bf16 := Memref.whole cc0_scratch14

/-- The transfers' counters, all at zero. -/
abbrev cells0 (c : Dev nD) : sProp 𝕄 :=
  iprop((cell c 0 ∗ cell c 1 ∗ cell c 2 ∗ cell c 3 ∗ cell c 4) ∗ (cell c 5 ∗ cell c 6 ∗ cell c 7 ∗ cell c 8 ∗ cell c 9 ∗ cell c 10 ∗ cell c 11 ∗ cell c 12 ∗ cell c 13) ∗ (cell c 14 ∗ cell c 15 ∗ cell c 16 ∗ cell c 17 ∗ cell c 18 ∗ cell c 19 ∗ cell c 20 ∗ cell c 21 ∗ cell c 22) ∗ (cell c 23 ∗ cell c 24 ∗ cell c 25 ∗ cell c 26 ∗ cell c 27 ∗ cell c 28 ∗ cell c 29 ∗ cell c 30 ∗ cell c 31) ∗ (cell c 32 ∗ cell c 33 ∗ cell c 34 ∗ cell c 35 ∗ cell c 36 ∗ cell c 37 ∗ cell c 38 ∗ cell c 39 ∗ cell c 40) ∗ (cell c 41 ∗ cell c 42 ∗ cell c 43 ∗ cell c 44 ∗ cell c 45 ∗ cell c 46 ∗ cell c 47 ∗ cell c 48 ∗ cell c 49) ∗ (cell c 50 ∗ cell c 51) ∗ (cell c 52 ∗ cell c 53 ∗ cell c 54 ∗ cell c 55 ∗ cell c 56))
/-- The operands in HBM at what they hold. -/
abbrev operands (c : Dev nD) (f0 : Bf (F := F) c xH) (f1 : Bf (F := F) c wH) (f2 : Bf (F := F) c wsH) (f3 : Bf (F := F) c bH) (f4 : Bf (F := F) c ldH) (f5 : Bf (F := F) c luH) : sProp 𝕄 :=
  iprop(pt c xH f0 ∗ pt c wH f1 ∗ pt c wsH f2 ∗ pt c bH f3 ∗ pt c ldH f4 ∗ pt c luH f5)
/-- The scratch buffers at anything. -/
abbrev scratch (c : Dev nD) : sProp 𝕄 :=
  iprop((∃ f, pt c xV f) ∗ (∃ f, pt c wV f) ∗ (∃ f, pt c wsV f) ∗ (∃ f, pt c bV f) ∗ (∃ f, pt c ldV f) ∗ (∃ f, pt c luV f) ∗ (∃ f, pt c codesV f) ∗ (∃ f, pt c xcV f) ∗ (∃ f, pt c xsV f) ∗ (∃ f, pt c sV f) ∗ (∃ f, pt c accV f) ∗ (∃ f, pt c loV f) ∗ (∃ f, pt c hiV f) ∗ (∃ f, pt c dV f) ∗ (∃ f, pt c yV f))

set_option maxHeartbeats 4000000 in
set_option sl_exec.dmaWindow true in
set_option sl_exec.squeezeSlice true in
set_option sl_exec.rejoinFuel 100 in
/-- What the body leaves in the three results, with the proof that it runs to its return from its buffers held whole: the operands at
    `f0 … f5`, the results at `o0 … o2`, the scratch at `d0 … d14`, every counter at zero. -/
noncomputable def kernelRun (c : Dev nD) (f0 : Bf (F := F) c xH) (f1 : Bf (F := F) c wH) (f2 : Bf (F := F) c wsH) (f3 : Bf (F := F) c bH) (f4 : Bf (F := F) c ldH) (f5 : Bf (F := F) c luH) (o0 : Bf (F := F) c yH) (o1 : Bf (F := F) c xcH) (o2 : Bf (F := F) c xsH) (d0 : Bf (F := F) c xV) (d1 : Bf (F := F) c wV) (d2 : Bf (F := F) c wsV) (d3 : Bf (F := F) c bV) (d4 : Bf (F := F) c ldV) (d5 : Bf (F := F) c luV) (d6 : Bf (F := F) c codesV) (d7 : Bf (F := F) c xcV) (d8 : Bf (F := F) c xsV) (d9 : Bf (F := F) c sV) (d10 : Bf (F := F) c accV) (d11 : Bf (F := F) c loV) (d12 : Bf (F := F) c hiV) (d13 : Bf (F := F) c dV) (d14 : Bf (F := F) c yV) :
    { W : Bf (F := F) c yH × Bf (F := F) c xcH × Bf (F := F) c xsH //
      ∀ (W0 : Waits sig Unit) (Q : PUnit → sProp 𝕄),
        iprop(operands c f0 f1 f2 f3 f4 f5 ∗ pt c yH o0 ∗ pt c xcH o1 ∗ pt c xsH o2 ∗ pt c xV d0 ∗ pt c wV d1 ∗ pt c wsV d2 ∗ pt c bV d3 ∗ pt c ldV d4 ∗ pt c luV d5 ∗ pt c codesV d6 ∗ pt c xcV d7 ∗ pt c xsV d8 ∗ pt c sV d9 ∗ pt c accV d10 ∗ pt c loV d11 ∗ pt c hiV d12 ∗ pt c dV d13 ∗ pt c yV d14 ∗ cells0 c ∗ owes (c : Thread nD τ) 0 W0
          ∗ (iprop((scratch c ∗ (∃ W', owes (c : Thread nD τ) 0 W')) ∗ cells0 c ∗ operands c f0 f1 f2 f3 f4 f5
              ∗ pt c yH W.1 ∗ pt c xcH W.2.1 ∗ pt c xsH W.2.2) -∗ Q ⟨⟩))
        ⊢ wp frame (wpE (defs₀ (F := F)) Variants.none c none) Set.univ
            (cc0_locon_conv3x3 xH (Memref.isWhole_whole _) wH (Memref.isWhole_whole _) wsH (Memref.isWhole_whole _) bH (Memref.isWhole_whole _) ldH (Memref.isWhole_whole _) luH (Memref.isWhole_whole _) yH (Memref.isWhole_whole _) xcH (Memref.isWhole_whole _) xsH (Memref.isWhole_whole _) xV (Memref.isWhole_whole _) wV (Memref.isWhole_whole _) wsV (Memref.isWhole_whole _) bV (Memref.isWhole_whole _) ldV (Memref.isWhole_whole _) luV (Memref.isWhole_whole _) codesV (Memref.isWhole_whole _) xcV (Memref.isWhole_whole _) xsV (Memref.isWhole_whole _) sV (Memref.isWhole_whole _) accV (Memref.isWhole_whole _) loV (Memref.isWhole_whole _) hiV (Memref.isWhole_whole _) dV (Memref.isWhole_whole _) yV (Memref.isWhole_whole _) cc0_scratch15 cc0_scratch16 cc0_scratch17 cc0_scratch18) Q } := by
  refine ⟨⟨?_, ?_, ?_⟩, fun W0 Q => ?run⟩
  case run =>
    unfold operands cells0
    iintro ⟨⟨H0, H1, H2, H3, H4, H5⟩, O0, O1, O2, D0, D1, D2, D3, D4, D5, D6, D7, D8, D9, D10, D11, D12, D13, D14, ⟨⟨C0, C1, C2, C3, C4⟩, ⟨C5, C6, C7, C8, C9, C10, C11, C12, C13⟩, ⟨C14, C15, C16, C17, C18, C19, C20, C21, C22⟩, ⟨C23, C24, C25, C26, C27, C28, C29, C30, C31⟩, ⟨C32, C33, C34, C35, C36, C37, C38, C39, C40⟩, ⟨C41, C42, C43, C44, C45, C46, C47, C48, C49⟩, ⟨C50, C51⟩, ⟨C52, C53, C54, C55, C56⟩⟩, HW, Hk⟩
    sl_exec_parts!
    sl_step
    iapply Hk
    isplitl [D0 D1 D2 D3 D4 D5 D6 D7 D8 D9 D10 D11 D12 D13 D14 HW]
    · isplitl [D0 D1 D2 D3 D4 D5 D6 D7 D8 D9 D10 D11 D12 D13 D14]
      · isplitl [D0]; · iexists _; iexact D0
        isplitl [D1]; · iexists _; iexact D1
        isplitl [D2]; · iexists _; iexact D2
        isplitl [D3]; · iexists _; iexact D3
        isplitl [D4]; · iexists _; iexact D4
        isplitl [D5]; · iexists _; iexact D5
        isplitl [D6]; · iexists _; iexact D6
        isplitl [D7]; · iexists _; iexact D7
        isplitl [D8]; · iexists _; iexact D8
        isplitl [D9]; · iexists _; iexact D9
        isplitl [D10]; · iexists _; iexact D10
        isplitl [D11]; · iexists _; iexact D11
        isplitl [D12]; · iexists _; iexact D12
        isplitl [D13]; · iexists _; iexact D13
        iexists _; iexact D14
      · iexists _; iexact HW
    isplitl [C0 C1 C2 C3 C4 C5 C6 C7 C8 C9 C10 C11 C12 C13 C14 C15 C16 C17 C18 C19 C20 C21 C22 C23 C24 C25 C26 C27 C28 C29 C30 C31 C32 C33 C34 C35 C36 C37 C38 C39 C40 C41 C42 C43 C44 C45 C46 C47 C48 C49 C50 C51 C52 C53 C54 C55 C56]
    · isplitl [C0 C1 C2 C3 C4]
      · isplitl [C0]; · iexact C0
        isplitl [C1]; · iexact C1
        isplitl [C2]; · iexact C2
        isplitl [C3]; · iexact C3
        iexact C4
      isplitl [C5 C6 C7 C8 C9 C10 C11 C12 C13]
      · isplitl [C5]; · iexact C5
        isplitl [C6]; · iexact C6
        isplitl [C7]; · iexact C7
        isplitl [C8]; · iexact C8
        isplitl [C9]; · iexact C9
        isplitl [C10]; · iexact C10
        isplitl [C11]; · iexact C11
        isplitl [C12]; · iexact C12
        iexact C13
      isplitl [C14 C15 C16 C17 C18 C19 C20 C21 C22]
      · isplitl [C14]; · iexact C14
        isplitl [C15]; · iexact C15
        isplitl [C16]; · iexact C16
        isplitl [C17]; · iexact C17
        isplitl [C18]; · iexact C18
        isplitl [C19]; · iexact C19
        isplitl [C20]; · iexact C20
        isplitl [C21]; · iexact C21
        iexact C22
      isplitl [C23 C24 C25 C26 C27 C28 C29 C30 C31]
      · isplitl [C23]; · iexact C23
        isplitl [C24]; · iexact C24
        isplitl [C25]; · iexact C25
        isplitl [C26]; · iexact C26
        isplitl [C27]; · iexact C27
        isplitl [C28]; · iexact C28
        isplitl [C29]; · iexact C29
        isplitl [C30]; · iexact C30
        iexact C31
      isplitl [C32 C33 C34 C35 C36 C37 C38 C39 C40]
      · isplitl [C32]; · iexact C32
        isplitl [C33]; · iexact C33
        isplitl [C34]; · iexact C34
        isplitl [C35]; · iexact C35
        isplitl [C36]; · iexact C36
        isplitl [C37]; · iexact C37
        isplitl [C38]; · iexact C38
        isplitl [C39]; · iexact C39
        iexact C40
      isplitl [C41 C42 C43 C44 C45 C46 C47 C48 C49]
      · isplitl [C41]; · iexact C41
        isplitl [C42]; · iexact C42
        isplitl [C43]; · iexact C43
        isplitl [C44]; · iexact C44
        isplitl [C45]; · iexact C45
        isplitl [C46]; · iexact C46
        isplitl [C47]; · iexact C47
        isplitl [C48]; · iexact C48
        iexact C49
      isplitl [C50 C51]
      · isplitl [C50]; · iexact C50
        iexact C51
      isplitl [C52]; · iexact C52
      isplitl [C53]; · iexact C53
      isplitl [C54]; · iexact C54
      isplitl [C55]; · iexact C55
      iexact C56
    isplitl [H0 H1 H2 H3 H4 H5]
    · isplitl [H0]; · iexact H0
      isplitl [H1]; · iexact H1
      isplitl [H2]; · iexact H2
      isplitl [H3]; · iexact H3
      isplitl [H4]; · iexact H4
      iexact H5
    isplitl [O0]; · iexact O0
    isplitl [O1]; · iexact O1
    iexact O2

end Cert.Kernel.Hand

end
-- ==== Proof.FrameKernel.lean ====
/-
  The run of the whole program around its one region: the region's body is `Body.lean`'s `kernelRun`, its buffers and counters
  are the region's invariant, and the host lines before and after it are the library's. `frame` says the run ends, that the
  arguments end unchanged and that every counter ends at zero.
-/
module

public import proofs.«01_k».proof.Proof.BodyKernel
public import proofs.«01_k».proof.Proof.Gen.Kernel.Frame
public import Idealize.ShloMosaic.Lib.Pipeline.FrameBody
public import Idealize.ShloMosaic.Lib.Pipeline.FrameSuffixV

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (Pipeline.UD sig nD τ) ℕ

variable (m : (ℓ : Loc nD τ sig) → Buf (Elt F) ℓ) (ρ : Dev nD → PrngReg)

/-! ## The region's invariant, part by part -/

/-- The body's transfer counters, in the pool's order. -/
abbrev osem0 : Fin 57 → SemLoc sig := fun j => SemLoc.dma j
theorem ownSemFacts0 : Pipeline.OwnSemFacts (cfg0.spec) osem0 := by
  refine ⟨by decide, fun a b h => ?_, fun k w => w.elim0⟩
  injection h

/-- The HBM operands the body's transfers read. -/
def H0 : Finset (Ref sig .tc) := {main_v1, main_v2, main_v3, main_v4, main_v6, main_arg5}
/-- The HBM results the body's transfers write. -/
def R0 : Finset (Ref sig .tc) := {main_v7_0, main_v7_1, main_v7_2}
/-- The buffers the host lines after the region write. -/
def T0 : Finset (Ref sig .tc) := {main_v8, main_v9, main_v10, main_v11}
theorem H0_sub : H0 ⊆ Pipeline.restRefs sig (cfg0.spec) := by decide
theorem R0_sub : R0 ⊆ Pipeline.restRefs sig (cfg0.spec) \ H0 := by decide

theorem ownSems0_eq (c : Dev nD) :
    (Pipeline.ownSems0 (Ix := Unit) (Name := ℕ) (U := Pipeline.UD sig nD τ) (Lvl := ℕ) (Val := Elt F) (τ := τ) osem0 c : sProp 𝕄)
      = iprop(cell c 0 ∗ cell c 1 ∗ cell c 2 ∗ cell c 3 ∗ cell c 4 ∗ cell c 5 ∗ cell c 6 ∗ cell c 7 ∗ cell c 8 ∗ cell c 9 ∗ cell c 10 ∗ cell c 11 ∗ cell c 12 ∗ cell c 13 ∗ cell c 14 ∗ cell c 15 ∗ cell c 16 ∗ cell c 17 ∗ cell c 18 ∗ cell c 19 ∗ cell c 20 ∗ cell c 21 ∗ cell c 22 ∗ cell c 23 ∗ cell c 24 ∗ cell c 25 ∗ cell c 26 ∗ cell c 27 ∗ cell c 28 ∗ cell c 29 ∗ cell c 30 ∗ cell c 31 ∗ cell c 32 ∗ cell c 33 ∗ cell c 34 ∗ cell c 35 ∗ cell c 36 ∗ cell c 37 ∗ cell c 38 ∗ cell c 39 ∗ cell c 40 ∗ cell c 41 ∗ cell c 42 ∗ cell c 43 ∗ cell c 44 ∗ cell c 45 ∗ cell c 46 ∗ cell c 47 ∗ cell c 48 ∗ cell c 49 ∗ cell c 50 ∗ cell c 51 ∗ cell c 52 ∗ cell c 53 ∗ cell c 54 ∗ cell c 55 ∗ cell c 56) := by
  rw [Pipeline.ownSems0_eq_of_list c osem0 [0, 1, 2, 3, 4, 5, 6, 7, 8, 9, 10, 11, 12, 13, 14, 15, 16, 17, 18, 19, 20, 21, 22, 23, 24, 25, 26, 27, 28, 29, 30, 31, 32, 33, 34, 35, 36, 37, 38, 39, 40, 41, 42, 43, 44, 45, 46, 47, 48, 49, 50, 51, 52, 53, 54, 55, 56] (by decide) (by decide)]; rfl

theorem cells0_of_ownSems0 (c : Dev nD) :
    (Pipeline.ownSems0 (Ix := Unit) (Name := ℕ) (U := Pipeline.UD sig nD τ) (Lvl := ℕ) (Val := Elt F) (τ := τ) osem0 c : sProp 𝕄) ⊢ cells0 c := by
  rw [ownSems0_eq]
  iintro ⟨C0, C1, C2, C3, C4, C5, C6, C7, C8, C9, C10, C11, C12, C13, C14, C15, C16, C17, C18, C19, C20, C21, C22, C23, C24, C25, C26, C27, C28, C29, C30, C31, C32, C33, C34, C35, C36, C37, C38, C39, C40, C41, C42, C43, C44, C45, C46, C47, C48, C49, C50, C51, C52, C53, C54, C55, C56⟩
  isplitl [C0 C1 C2 C3 C4]
  · isplitl [C0]; · iexact C0
    isplitl [C1]; · iexact C1
    isplitl [C2]; · iexact C2
    isplitl [C3]; · iexact C3
    iexact C4
  isplitl [C5 C6 C7 C8 C9 C10 C11 C12 C13]
  · isplitl [C5]; · iexact C5
    isplitl [C6]; · iexact C6
    isplitl [C7]; · iexact C7
    isplitl [C8]; · iexact C8
    isplitl [C9]; · iexact C9
    isplitl [C10]; · iexact C10
    isplitl [C11]; · iexact C11
    isplitl [C12]; · iexact C12
    iexact C13
  isplitl [C14 C15 C16 C17 C18 C19 C20 C21 C22]
  · isplitl [C14]; · iexact C14
    isplitl [C15]; · iexact C15
    isplitl [C16]; · iexact C16
    isplitl [C17]; · iexact C17
    isplitl [C18]; · iexact C18
    isplitl [C19]; · iexact C19
    isplitl [C20]; · iexact C20
    isplitl [C21]; · iexact C21
    iexact C22
  isplitl [C23 C24 C25 C26 C27 C28 C29 C30 C31]
  · isplitl [C23]; · iexact C23
    isplitl [C24]; · iexact C24
    isplitl [C25]; · iexact C25
    isplitl [C26]; · iexact C26
    isplitl [C27]; · iexact C27
    isplitl [C28]; · iexact C28
    isplitl [C29]; · iexact C29
    isplitl [C30]; · iexact C30
    iexact C31
  isplitl [C32 C33 C34 C35 C36 C37 C38 C39 C40]
  · isplitl [C32]; · iexact C32
    isplitl [C33]; · iexact C33
    isplitl [C34]; · iexact C34
    isplitl [C35]; · iexact C35
    isplitl [C36]; · iexact C36
    isplitl [C37]; · iexact C37
    isplitl [C38]; · iexact C38
    isplitl [C39]; · iexact C39
    iexact C40
  isplitl [C41 C42 C43 C44 C45 C46 C47 C48 C49]
  · isplitl [C41]; · iexact C41
    isplitl [C42]; · iexact C42
    isplitl [C43]; · iexact C43
    isplitl [C44]; · iexact C44
    isplitl [C45]; · iexact C45
    isplitl [C46]; · iexact C46
    isplitl [C47]; · iexact C47
    isplitl [C48]; · iexact C48
    iexact C49
  isplitl [C50 C51]
  · isplitl [C50]; · iexact C50
    iexact C51
  isplitl [C52]; · iexact C52
  isplitl [C53]; · iexact C53
  isplitl [C54]; · iexact C54
  isplitl [C55]; · iexact C55
  iexact C56

theorem ownSems0_of_cells0 (c : Dev nD) :
    cells0 c ⊢ (Pipeline.ownSems0 (Ix := Unit) (Name := ℕ) (U := Pipeline.UD sig nD τ) (Lvl := ℕ) (Val := Elt F) (τ := τ) osem0 c : sProp 𝕄) := by
  rw [ownSems0_eq]
  iintro ⟨⟨C0, C1, C2, C3, C4⟩, ⟨C5, C6, C7, C8, C9, C10, C11, C12, C13⟩, ⟨C14, C15, C16, C17, C18, C19, C20, C21, C22⟩, ⟨C23, C24, C25, C26, C27, C28, C29, C30, C31⟩, ⟨C32, C33, C34, C35, C36, C37, C38, C39, C40⟩, ⟨C41, C42, C43, C44, C45, C46, C47, C48, C49⟩, ⟨C50, C51⟩, ⟨C52, C53, C54, C55, C56⟩⟩
  isplitl [C0]; · iexact C0
  isplitl [C1]; · iexact C1
  isplitl [C2]; · iexact C2
  isplitl [C3]; · iexact C3
  isplitl [C4]; · iexact C4
  isplitl [C5]; · iexact C5
  isplitl [C6]; · iexact C6
  isplitl [C7]; · iexact C7
  isplitl [C8]; · iexact C8
  isplitl [C9]; · iexact C9
  isplitl [C10]; · iexact C10
  isplitl [C11]; · iexact C11
  isplitl [C12]; · iexact C12
  isplitl [C13]; · iexact C13
  isplitl [C14]; · iexact C14
  isplitl [C15]; · iexact C15
  isplitl [C16]; · iexact C16
  isplitl [C17]; · iexact C17
  isplitl [C18]; · iexact C18
  isplitl [C19]; · iexact C19
  isplitl [C20]; · iexact C20
  isplitl [C21]; · iexact C21
  isplitl [C22]; · iexact C22
  isplitl [C23]; · iexact C23
  isplitl [C24]; · iexact C24
  isplitl [C25]; · iexact C25
  isplitl [C26]; · iexact C26
  isplitl [C27]; · iexact C27
  isplitl [C28]; · iexact C28
  isplitl [C29]; · iexact C29
  isplitl [C30]; · iexact C30
  isplitl [C31]; · iexact C31
  isplitl [C32]; · iexact C32
  isplitl [C33]; · iexact C33
  isplitl [C34]; · iexact C34
  isplitl [C35]; · iexact C35
  isplitl [C36]; · iexact C36
  isplitl [C37]; · iexact C37
  isplitl [C38]; · iexact C38
  isplitl [C39]; · iexact C39
  isplitl [C40]; · iexact C40
  isplitl [C41]; · iexact C41
  isplitl [C42]; · iexact C42
  isplitl [C43]; · iexact C43
  isplitl [C44]; · iexact C44
  isplitl [C45]; · iexact C45
  isplitl [C46]; · iexact C46
  isplitl [C47]; · iexact C47
  isplitl [C48]; · iexact C48
  isplitl [C49]; · iexact C49
  isplitl [C50]; · iexact C50
  isplitl [C51]; · iexact C51
  isplitl [C52]; · iexact C52
  isplitl [C53]; · iexact C53
  isplitl [C54]; · iexact C54
  isplitl [C55]; · iexact C55
  iexact C56

theorem operands_eq (c : Dev nD) :
    (bigSep H0 (fun b => ((c : Thread nD τ).loc b) ↦{fullShare} V m c b) : sProp 𝕄)
      = operands c (V m c main_v1) (V m c main_v2) (V m c main_v3) (V m c main_v4) (V m c main_v6) (V m c main_arg5) := by
  rw [BI.bigSep_eq_bigSepL_of_eq [main_v1, main_v2, main_v3, main_v4, main_v6, main_arg5] (by decide) (by decide)]; rfl

theorem results_eq (c : Dev nD) (G : (b : Ref sig .tc) → Buf (Elt F) ((c : Thread nD τ).loc b)) :
    (bigSep R0 (fun b => ((c : Thread nD τ).loc b) ↦{fullShare} G b) : sProp 𝕄)
      = iprop(pt c yH (G main_v7_0) ∗ pt c xcH (G main_v7_1) ∗ pt c xsH (G main_v7_2)) := by
  rw [BI.bigSep_eq_bigSepL_of_eq [main_v7_0, main_v7_1, main_v7_2] (by decide) (by decide)]; rfl

theorem owned_eq (c : Dev nD) :
    (Pipeline.owned R0 c : sProp 𝕄) = iprop((∃ f, pt c yH f) ∗ (∃ f, pt c xcH f) ∗ (∃ f, pt c xsH f)) := by
  unfold Pipeline.owned; rw [BI.bigSep_eq_bigSepL_of_eq [main_v7_0, main_v7_1, main_v7_2] (by decide) (by decide)]; rfl

theorem scratch_eq (c : Dev nD) :
    (Pipeline.scopedRest (Ix := Unit) (Name := ℕ) (U := Pipeline.UD sig nD τ) (Lvl := ℕ) (Val := Elt F) (cfg0.spec) c : sProp 𝕄) = scratch c :=
  (scopedRest0_eq c).trans rfl

/-! ## The body -/

/-- `W` is what some run of the body leaves in the three results, the operands holding `f0 … f5`. -/
def Leaves (c : Dev nD) (f0 : Bf (F := F) c xH) (f1 : Bf (F := F) c wH) (f2 : Bf (F := F) c wsH) (f3 : Bf (F := F) c bH) (f4 : Bf (F := F) c ldH) (f5 : Bf (F := F) c luH)
    (W : Bf (F := F) c yH × Bf (F := F) c xcH × Bf (F := F) c xsH) : Prop :=
  ∃ (o0 : Bf (F := F) c yH) (o1 : Bf (F := F) c xcH) (o2 : Bf (F := F) c xsH) (d0 : Bf (F := F) c xV) (d1 : Bf (F := F) c wV) (d2 : Bf (F := F) c wsV) (d3 : Bf (F := F) c bV) (d4 : Bf (F := F) c ldV) (d5 : Bf (F := F) c luV) (d6 : Bf (F := F) c codesV) (d7 : Bf (F := F) c xcV) (d8 : Bf (F := F) c xsV) (d9 : Bf (F := F) c sV) (d10 : Bf (F := F) c accV) (d11 : Bf (F := F) c loV) (d12 : Bf (F := F) c hiV) (d13 : Bf (F := F) c dV) (d14 : Bf (F := F) c yV),
    W = (kernelRun c f0 f1 f2 f3 f4 f5 o0 o1 o2 d0 d1 d2 d3 d4 d5 d6 d7 d8 d9 d10 d11 d12 d13 d14).1

/-- The body from its buffers held whole to its buffers held whole, the results then at what a run leaves. -/
theorem body_wp (c : Dev nD) (f0 : Bf (F := F) c xH) (f1 : Bf (F := F) c wH) (f2 : Bf (F := F) c wsH) (f3 : Bf (F := F) c bH) (f4 : Bf (F := F) c ldH) (f5 : Bf (F := F) c luH)
    (o0 : Bf (F := F) c yH) (o1 : Bf (F := F) c xcH) (o2 : Bf (F := F) c xsH) (W0 : Waits sig Unit) (t : Fin cfg0.N) (Q : PUnit → sProp 𝕄) :
    iprop(scratch c ∗ cells0 c ∗ operands c f0 f1 f2 f3 f4 f5 ∗ pt c yH o0 ∗ pt c xcH o1 ∗ pt c xsH o2 ∗ owes (c : Thread nD τ) 0 W0
        ∗ (iprop((scratch c ∗ (∃ W', owes (c : Thread nD τ) 0 W')) ∗ cells0 c ∗ operands c f0 f1 f2 f3 f4 f5
            ∗ ∃ W : Bf (F := F) c yH × Bf (F := F) c xcH × Bf (F := F) c xsH, ⌜Leaves c f0 f1 f2 f3 f4 f5 W⌝ ∗ pt c yH W.1 ∗ pt c xcH W.2.1 ∗ pt c xsH W.2.2) -∗ Q ⟨⟩))
      ⊢ wp frame (wpE (defs₀ (F := F)) Variants.none c none) Set.univ (bodyAt0 t) Q := by
  iintro ⟨⟨⟨%d0, D0⟩, ⟨%d1, D1⟩, ⟨%d2, D2⟩, ⟨%d3, D3⟩, ⟨%d4, D4⟩, ⟨%d5, D5⟩, ⟨%d6, D6⟩, ⟨%d7, D7⟩, ⟨%d8, D8⟩, ⟨%d9, D9⟩, ⟨%d10, D10⟩, ⟨%d11, D11⟩, ⟨%d12, D12⟩, ⟨%d13, D13⟩, ⟨%d14, D14⟩⟩, C, H, O0, O1, O2, HW, K⟩
  iapply ((kernelRun c f0 f1 f2 f3 f4 f5 o0 o1 o2 d0 d1 d2 d3 d4 d5 d6 d7 d8 d9 d10 d11 d12 d13 d14).2 W0 _)
  isplitl [H]; · iexact H
  isplitl [O0]; · iexact O0
  isplitl [O1]; · iexact O1
  isplitl [O2]; · iexact O2
  isplitl [D0]; · iexact D0
  isplitl [D1]; · iexact D1
  isplitl [D2]; · iexact D2
  isplitl [D3]; · iexact D3
  isplitl [D4]; · iexact D4
  isplitl [D5]; · iexact D5
  isplitl [D6]; · iexact D6
  isplitl [D7]; · iexact D7
  isplitl [D8]; · iexact D8
  isplitl [D9]; · iexact D9
  isplitl [D10]; · iexact D10
  isplitl [D11]; · iexact D11
  isplitl [D12]; · iexact D12
  isplitl [D13]; · iexact D13
  isplitl [D14]; · iexact D14
  isplitl [C]; · iexact C
  isplitl [HW]; · iexact HW
  iintro ⟨S, C, H, O0, O1, O2⟩
  iapply K
  isplitl [S]; · iexact S
  isplitl [C]; · iexact C
  isplitl [H]; · iexact H
  iexists (kernelRun c f0 f1 f2 f3 f4 f5 o0 o1 o2 d0 d1 d2 d3 d4 d5 d6 d7 d8 d9 d10 d11 d12 d13 d14).1
  isplitr; · ipureintro; exact ⟨o0, o1, o2, d0, d1, d2, d3, d4, d5, d6, d7, d8, d9, d10, d11, d12, d13, d14, rfl⟩
  isplitl [O0]; · iexact O0
  isplitl [O1]; · iexact O1
  iexact O2

/-! ## The frame -/

/-- The region's proof data: no window; before and after the one point the invariant is the same. -/
def dats : (p : Fin 1) → (c : Dev nD) → Dat τ (Elt F) Unit ℕ (Pipeline.UD sig nD τ) ℕ (cfgs p) c := fun _ c =>
  { A := fun w => w.elim0
    after := fun w => w.elim0
    Φ := fun _ => Pipeline.ΦDR osem0 (cfg0.spec) H0 R0 (V m) c
    q := fun w => w.elim0
    owed := fun _ => 0 }

theorem defs₀_row (t : Fin cfg0.N) :
    defs₀ (F := F) .tc cfg0.body (cfg0.bodyArgs t (cfg0.slots t)) = bodyAt0 t := by
  unfold defs₀; rw [Defs.onTc_tc]

theorem sound_body (c : Dev nD) (t : Fin cfg0.N) :
    iprop(Pipeline.ΦDR osem0 (cfg0.spec) H0 R0 (V m) c ∗ (dats m 0 c).owesAt () t.castSucc)
      ⊢ wp frame (wpE (defs₀ (F := F)) Variants.none c none) Set.univ (bodyAt0 t) fun _ =>
          iprop(Pipeline.ΦDR osem0 (cfg0.spec) H0 R0 (V m) c ∗ (dats m 0 c).owesAt () t.succ) := by
  unfold Pipeline.Dat.owesAt
  rw [show (dats m 0 c).owed t.castSucc = 0 from rfl, show (dats m 0 c).owed t.succ = 0 from rfl]
  rw [Pipeline.ΦDR_eq, operands_eq, owned_eq, scratch_eq]
  iintro ⟨⟨S, G, C, H, ⟨%o0, O0⟩, ⟨%o1, O1⟩, ⟨%o2, O2⟩⟩, ⟨%W0, -, HW⟩⟩
  ihave C := (cells0_of_ownSems0 c) $$ C
  iapply (body_wp c _ _ _ _ _ _ o0 o1 o2 W0 t _)
  isplitl [S]; · iexact S
  isplitl [C]; · iexact C
  isplitl [H]; · iexact H
  isplitl [O0]; · iexact O0
  isplitl [O1]; · iexact O1
  isplitl [O2]; · iexact O2
  isplitl [HW]; · iexact HW
  iintro ⟨⟨S, ⟨%W', HW⟩⟩, C, H, ⟨%W, -, O0, O1, O2⟩⟩
  ihave C := (ownSems0_of_cells0 c) $$ C
  isplitr [HW]
  · isplitl [S]; · iexact S
    isplitl [G]; · iexact G
    isplitl [C]; · iexact C
    isplitl [H]; · iexact H
    isplitl [O0]; · iexists _; iexact O0
    isplitl [O1]; · iexists _; iexact O1
    iexists _; iexact O2
  iexists W'; isplitr; · ipureintro; exact fun _ _ => Or.inl trivial
  iexact HW

theorem body_obligation (c : Dev nD) : BodyObligation (dats (F := F) m 0 c) (defs₀ (F := F)) Variants.none () Set.univ := fun t => by
  rw [defs₀_row, Finset.univ_eq_empty (α := Fin cfg0.W), BI.bigSep_empty, BI.bigSep_empty,
    show (dats m 0 c).Φ t.castSucc = Pipeline.ΦDR osem0 (cfg0.spec) H0 R0 (V m) c from rfl,
    show (dats m 0 c).Φ t.succ = Pipeline.ΦDR osem0 (cfg0.spec) H0 R0 (V m) c from rfl]
  refine triple_restated (sound_body m c t) rfl ?_ fun _ => ?_
  · iintro ⟨P, Q, -⟩
    isplitl [P]; · iexact P
    iexact Q
  · iintro ⟨P, Q⟩
    isplitl [P]; · iexact P
    isplitl [Q]; · iexact Q
    iempintro

/-- @main around the region, at this proof's algebra. -/
theorem hmainD : Pipeline.HMainK (Ix := Unit) (Name := ℕ) (U := Pipeline.UD sig nD τ) (Lvl := ℕ) cfgs 0 defs₀ Variants.none m (main (F := F)) (V m)
      (fun _ => Pipeline.chain ([hostOps1].map StableHlo.seq)) :=
  Pipeline.hmain_around cfgs 0 defs₀ Variants.none m main [hostOps0] [hostOps1] (by simp only [List.Forall]; exact hostOps0_sub)
    (by simp only [List.Forall]; exact hostOps0_fresh) main_chain

theorem tail_writes : ∀ ops ∈ ([hostOps1] : List (List (HloOp τ sig (Elt F)))), ∀ op ∈ ops, ∀ b : Ref sig .tc,
    Proc.devRef .tc b ∈ op.writes → b ∈ T0 := by
  intro ops hops op hop b hb
  simp only [List.mem_cons, List.mem_nil_iff, or_false] at hops
  subst hops
  simp only [hostOps1, List.mem_cons, List.mem_nil_iff, or_false] at hop
  rcases hop with rfl | rfl | rfl | rfl <;>
    simp only [StableHlo.unary_writes, StableHlo.reshape_writes, Finset.mem_singleton] at hb <;>
    (have := Proc.devRef_injective _ hb; subst this; decide)

set_option backward.isDefEq.respectTransparency.types false in
theorem run_main : θ_run defs (onTc (τ := τ) (main (F := F))) (s₀ m ρ)
    (fun r => Pipeline.FramePostR cfgs (dats m) 0 (R0 ∪ T0) (V m) r ∧ r.2.sem = fun _ => 0) :=
  Pipeline.θ_run_frame_dmaR_around (Q' := _) cfgs (dats m) (0 : Fin 1) launch0 osem0 defs₀ Variants.none ownSemFacts0 H0 R0 T0 H0_sub R0_sub m ρ main
    (hbody := fun c => (body_obligation m c).loose) (hshare := fun c => (dats m 0 c).share_full fun w => w.elim0)
    (howed := fun _ _ => rfl) (V₀ := V0 m) (opss := [hostOps1]) (hsub := sfx_sub) (hfresh := sfx_fresh) (hkeep := sfx_keeps) (hT := tail_writes)
    (hmain := hmainD m) (hA := fun _ w => w.elim0)
    (hin := fun _ => .rfl) (hout := fun _ => .rfl)

/-- The frame: the program runs to its end, its arguments end unchanged, every counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => ⟨((h.1 c).2 main_arg0 (Finset.mem_sdiff.mpr ⟨Pipeline.mem_restRefs_of main_arg0 (by decide) (fun w => w.elim0), by decide⟩)).trans (V_main_arg0 m c), ((h.1 c).2 main_arg1 (Finset.mem_sdiff.mpr ⟨Pipeline.mem_restRefs_of main_arg1 (by decide) (fun w => w.elim0), by decide⟩)).trans (V_main_arg1 m c), ((h.1 c).2 main_arg2 (Finset.mem_sdiff.mpr ⟨Pipeline.mem_restRefs_of main_arg2 (by decide) (fun w => w.elim0), by decide⟩)).trans (V_main_arg2 m c), ((h.1 c).2 main_arg3 (Finset.mem_sdiff.mpr ⟨Pipeline.mem_restRefs_of main_arg3 (by decide) (fun w => w.elim0), by decide⟩)).trans (V_main_arg3 m c), ((h.1 c).2 main_arg4 (Finset.mem_sdiff.mpr ⟨Pipeline.mem_restRefs_of main_arg4 (by decide) (fun w => w.elim0), by decide⟩)).trans (V_main_arg4 m c), ((h.1 c).2 main_arg5 (Finset.mem_sdiff.mpr ⟨Pipeline.mem_restRefs_of main_arg5 (by decide) (fun w => w.elim0), by decide⟩)).trans (V_main_arg5 m c)⟩, h.2⟩) (run_main m ρ)

end Cert.Kernel.Hand

end
-- ==== Proof.BodyIdeal.lean ====
/-
  One run of the kernel's body, every DMA and every wait of it, from its buffers held whole: `kernelRun` names what the three
  results then hold, as functions of what the operands, the results and the scratch buffers held before. The names it makes
  (`kernelRun.sl.…`) are the loads, stores and transfers in program order.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameSuffixV
public import Idealize.ShloMosaic.Lib.Tactic

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

/-- The contents of memref `M`'s buffer on core `c`. -/
abbrev Bf (c : Dev nD) {sp : Space} {S : Shape} {e : EltTy} (M : Memref sig .tc sp S e) : Type := Buf (Elt F) (M.view.loc (c : Thread nD τ))
/-- Memref `M`'s buffer on core `c`, held whole at `f`. -/
abbrev pt (c : Dev nD) {sp : Space} {S : Shape} {e : EltTy} (M : Memref sig .tc sp S e) (f : Bf (F := F) c M) : sProp 𝕄 :=
  M.view.loc (c : Thread nD τ) ↦{fullShare} f
/-- A transfer's counter at zero. -/
abbrev cell (c : Dev nD) (k : DmaSem sig) : sProp 𝕄 := semVal ((c : Thread nD τ), SemLoc.dma k) 0

abbrev xH : Memref sig .tc .hbm S192x2560 .bf16 := Memref.whole main_v1
abbrev wH : Memref sig .tc .hbm S9x2560x1280 .fp8e4m3 := Memref.whole main_v2
abbrev wsH : Memref sig .tc .hbm S1x1280 .f32 := Memref.whole main_v3
abbrev bH : Memref sig .tc .hbm S1x1280 .f32 := Memref.whole main_v4
abbrev ldH : Memref sig .tc .hbm S576x2560 .bf16 := Memref.whole main_v6
abbrev luH : Memref sig .tc .hbm S64x1280 .bf16 := Memref.whole main_arg5
abbrev yH : Memref sig .tc .hbm S192x1280 .bf16 := Memref.whole main_v7_0
abbrev xcH : Memref sig .tc .hbm S24x8x2560 .fp8e4m3 := Memref.whole main_v7_1
abbrev xsH : Memref sig .tc .hbm S2x8x12 .f32 := Memref.whole main_v7_2
abbrev xV : Memref sig .tc .vmem S192x2560 .bf16 := Memref.whole cc0_scratch0
abbrev wV : Memref sig .tc .vmem S45x2560x256 .fp8e4m3 := Memref.whole cc0_scratch1
abbrev wsV : Memref sig .tc .vmem S1x1280 .f32 := Memref.whole cc0_scratch2
abbrev bV : Memref sig .tc .vmem S1x1280 .f32 := Memref.whole cc0_scratch3
abbrev ldV : Memref sig .tc .vmem S576x2560 .bf16 := Memref.whole cc0_scratch4
abbrev luV : Memref sig .tc .vmem S64x1280 .bf16 := Memref.whole cc0_scratch5
abbrev codesV : Memref sig .tc .vmem S192x2560 .fp8e4m3 := Memref.whole cc0_scratch6
abbrev xcV : Memref sig .tc .vmem S24x8x2560 .fp8e4m3 := Memref.whole cc0_scratch7
abbrev xsV : Memref sig .tc .vmem S2x8x12 .f32 := Memref.whole cc0_scratch8
abbrev sV : Memref sig .tc .vmem S3x192x128 .f32 := Memref.whole cc0_scratch9
abbrev accV : Memref sig .tc .vmem S2x12x8x256 .f32 := Memref.whole cc0_scratch10
abbrev loV : Memref sig .tc .vmem S2x12x8x128 .f32 := Memref.whole cc0_scratch11
abbrev hiV : Memref sig .tc .vmem S2x12x8x128 .f32 := Memref.whole cc0_scratch12
abbrev dV : Memref sig .tc .vmem S192x128 .bf16 := Memref.whole cc0_scratch13
abbrev yV : Memref sig .tc .vmem S5x192x256 .bf16 := Memref.whole cc0_scratch14

/-- The transfers' counters, all at zero. -/
abbrev cells0 (c : Dev nD) : sProp 𝕄 :=
  iprop((cell c 0 ∗ cell c 1 ∗ cell c 2 ∗ cell c 3 ∗ cell c 4) ∗ (cell c 5 ∗ cell c 6 ∗ cell c 7 ∗ cell c 8 ∗ cell c 9 ∗ cell c 10 ∗ cell c 11 ∗ cell c 12 ∗ cell c 13) ∗ (cell c 14 ∗ cell c 15 ∗ cell c 16 ∗ cell c 17 ∗ cell c 18 ∗ cell c 19 ∗ cell c 20 ∗ cell c 21 ∗ cell c 22) ∗ (cell c 23 ∗ cell c 24 ∗ cell c 25 ∗ cell c 26 ∗ cell c 27 ∗ cell c 28 ∗ cell c 29 ∗ cell c 30 ∗ cell c 31) ∗ (cell c 32 ∗ cell c 33 ∗ cell c 34 ∗ cell c 35 ∗ cell c 36 ∗ cell c 37 ∗ cell c 38 ∗ cell c 39 ∗ cell c 40) ∗ (cell c 41 ∗ cell c 42 ∗ cell c 43 ∗ cell c 44 ∗ cell c 45 ∗ cell c 46 ∗ cell c 47 ∗ cell c 48 ∗ cell c 49) ∗ (cell c 50 ∗ cell c 51) ∗ (cell c 52 ∗ cell c 53 ∗ cell c 54 ∗ cell c 55 ∗ cell c 56))
/-- The operands in HBM at what they hold. -/
abbrev operands (c : Dev nD) (f0 : Bf (F := F) c xH) (f1 : Bf (F := F) c wH) (f2 : Bf (F := F) c wsH) (f3 : Bf (F := F) c bH) (f4 : Bf (F := F) c ldH) (f5 : Bf (F := F) c luH) : sProp 𝕄 :=
  iprop(pt c xH f0 ∗ pt c wH f1 ∗ pt c wsH f2 ∗ pt c bH f3 ∗ pt c ldH f4 ∗ pt c luH f5)
/-- The scratch buffers at anything. -/
abbrev scratch (c : Dev nD) : sProp 𝕄 :=
  iprop((∃ f, pt c xV f) ∗ (∃ f, pt c wV f) ∗ (∃ f, pt c wsV f) ∗ (∃ f, pt c bV f) ∗ (∃ f, pt c ldV f) ∗ (∃ f, pt c luV f) ∗ (∃ f, pt c codesV f) ∗ (∃ f, pt c xcV f) ∗ (∃ f, pt c xsV f) ∗ (∃ f, pt c sV f) ∗ (∃ f, pt c accV f) ∗ (∃ f, pt c loV f) ∗ (∃ f, pt c hiV f) ∗ (∃ f, pt c dV f) ∗ (∃ f, pt c yV f))

set_option maxHeartbeats 4000000 in
set_option sl_exec.dmaWindow true in
set_option sl_exec.squeezeSlice true in
set_option sl_exec.rejoinFuel 100 in
/-- What the body leaves in the three results, with the proof that it runs to its return from its buffers held whole: the operands at
    `f0 … f5`, the results at `o0 … o2`, the scratch at `d0 … d14`, every counter at zero. -/
noncomputable def kernelRun (c : Dev nD) (f0 : Bf (F := F) c xH) (f1 : Bf (F := F) c wH) (f2 : Bf (F := F) c wsH) (f3 : Bf (F := F) c bH) (f4 : Bf (F := F) c ldH) (f5 : Bf (F := F) c luH) (o0 : Bf (F := F) c yH) (o1 : Bf (F := F) c xcH) (o2 : Bf (F := F) c xsH) (d0 : Bf (F := F) c xV) (d1 : Bf (F := F) c wV) (d2 : Bf (F := F) c wsV) (d3 : Bf (F := F) c bV) (d4 : Bf (F := F) c ldV) (d5 : Bf (F := F) c luV) (d6 : Bf (F := F) c codesV) (d7 : Bf (F := F) c xcV) (d8 : Bf (F := F) c xsV) (d9 : Bf (F := F) c sV) (d10 : Bf (F := F) c accV) (d11 : Bf (F := F) c loV) (d12 : Bf (F := F) c hiV) (d13 : Bf (F := F) c dV) (d14 : Bf (F := F) c yV) :
    { W : Bf (F := F) c yH × Bf (F := F) c xcH × Bf (F := F) c xsH //
      ∀ (W0 : Waits sig Unit) (Q : PUnit → sProp 𝕄),
        iprop(operands c f0 f1 f2 f3 f4 f5 ∗ pt c yH o0 ∗ pt c xcH o1 ∗ pt c xsH o2 ∗ pt c xV d0 ∗ pt c wV d1 ∗ pt c wsV d2 ∗ pt c bV d3 ∗ pt c ldV d4 ∗ pt c luV d5 ∗ pt c codesV d6 ∗ pt c xcV d7 ∗ pt c xsV d8 ∗ pt c sV d9 ∗ pt c accV d10 ∗ pt c loV d11 ∗ pt c hiV d12 ∗ pt c dV d13 ∗ pt c yV d14 ∗ cells0 c ∗ owes (c : Thread nD τ) 0 W0
          ∗ (iprop((scratch c ∗ (∃ W', owes (c : Thread nD τ) 0 W')) ∗ cells0 c ∗ operands c f0 f1 f2 f3 f4 f5
              ∗ pt c yH W.1 ∗ pt c xcH W.2.1 ∗ pt c xsH W.2.2) -∗ Q ⟨⟩))
        ⊢ wp frame (wpE (defs₀ (F := F)) Variants.none c none) Set.univ
            (cc0_locon_conv3x3 xH (Memref.isWhole_whole _) wH (Memref.isWhole_whole _) wsH (Memref.isWhole_whole _) bH (Memref.isWhole_whole _) ldH (Memref.isWhole_whole _) luH (Memref.isWhole_whole _) yH (Memref.isWhole_whole _) xcH (Memref.isWhole_whole _) xsH (Memref.isWhole_whole _) xV (Memref.isWhole_whole _) wV (Memref.isWhole_whole _) wsV (Memref.isWhole_whole _) bV (Memref.isWhole_whole _) ldV (Memref.isWhole_whole _) luV (Memref.isWhole_whole _) codesV (Memref.isWhole_whole _) xcV (Memref.isWhole_whole _) xsV (Memref.isWhole_whole _) sV (Memref.isWhole_whole _) accV (Memref.isWhole_whole _) loV (Memref.isWhole_whole _) hiV (Memref.isWhole_whole _) dV (Memref.isWhole_whole _) yV (Memref.isWhole_whole _) cc0_scratch15 cc0_scratch16 cc0_scratch17 cc0_scratch18) Q } := by
  refine ⟨⟨?_, ?_, ?_⟩, fun W0 Q => ?run⟩
  case run =>
    unfold operands cells0
    iintro ⟨⟨H0, H1, H2, H3, H4, H5⟩, O0, O1, O2, D0, D1, D2, D3, D4, D5, D6, D7, D8, D9, D10, D11, D12, D13, D14, ⟨⟨C0, C1, C2, C3, C4⟩, ⟨C5, C6, C7, C8, C9, C10, C11, C12, C13⟩, ⟨C14, C15, C16, C17, C18, C19, C20, C21, C22⟩, ⟨C23, C24, C25, C26, C27, C28, C29, C30, C31⟩, ⟨C32, C33, C34, C35, C36, C37, C38, C39, C40⟩, ⟨C41, C42, C43, C44, C45, C46, C47, C48, C49⟩, ⟨C50, C51⟩, ⟨C52, C53, C54, C55, C56⟩⟩, HW, Hk⟩
    sl_exec_parts!
    sl_step
    iapply Hk
    isplitl [D0 D1 D2 D3 D4 D5 D6 D7 D8 D9 D10 D11 D12 D13 D14 HW]
    · isplitl [D0 D1 D2 D3 D4 D5 D6 D7 D8 D9 D10 D11 D12 D13 D14]
      · isplitl [D0]; · iexists _; iexact D0
        isplitl [D1]; · iexists _; iexact D1
        isplitl [D2]; · iexists _; iexact D2
        isplitl [D3]; · iexists _; iexact D3
        isplitl [D4]; · iexists _; iexact D4
        isplitl [D5]; · iexists _; iexact D5
        isplitl [D6]; · iexists _; iexact D6
        isplitl [D7]; · iexists _; iexact D7
        isplitl [D8]; · iexists _; iexact D8
        isplitl [D9]; · iexists _; iexact D9
        isplitl [D10]; · iexists _; iexact D10
        isplitl [D11]; · iexists _; iexact D11
        isplitl [D12]; · iexists _; iexact D12
        isplitl [D13]; · iexists _; iexact D13
        iexists _; iexact D14
      · iexists _; iexact HW
    isplitl [C0 C1 C2 C3 C4 C5 C6 C7 C8 C9 C10 C11 C12 C13 C14 C15 C16 C17 C18 C19 C20 C21 C22 C23 C24 C25 C26 C27 C28 C29 C30 C31 C32 C33 C34 C35 C36 C37 C38 C39 C40 C41 C42 C43 C44 C45 C46 C47 C48 C49 C50 C51 C52 C53 C54 C55 C56]
    · isplitl [C0 C1 C2 C3 C4]
      · isplitl [C0]; · iexact C0
        isplitl [C1]; · iexact C1
        isplitl [C2]; · iexact C2
        isplitl [C3]; · iexact C3
        iexact C4
      isplitl [C5 C6 C7 C8 C9 C10 C11 C12 C13]
      · isplitl [C5]; · iexact C5
        isplitl [C6]; · iexact C6
        isplitl [C7]; · iexact C7
        isplitl [C8]; · iexact C8
        isplitl [C9]; · iexact C9
        isplitl [C10]; · iexact C10
        isplitl [C11]; · iexact C11
        isplitl [C12]; · iexact C12
        iexact C13
      isplitl [C14 C15 C16 C17 C18 C19 C20 C21 C22]
      · isplitl [C14]; · iexact C14
        isplitl [C15]; · iexact C15
        isplitl [C16]; · iexact C16
        isplitl [C17]; · iexact C17
        isplitl [C18]; · iexact C18
        isplitl [C19]; · iexact C19
        isplitl [C20]; · iexact C20
        isplitl [C21]; · iexact C21
        iexact C22
      isplitl [C23 C24 C25 C26 C27 C28 C29 C30 C31]
      · isplitl [C23]; · iexact C23
        isplitl [C24]; · iexact C24
        isplitl [C25]; · iexact C25
        isplitl [C26]; · iexact C26
        isplitl [C27]; · iexact C27
        isplitl [C28]; · iexact C28
        isplitl [C29]; · iexact C29
        isplitl [C30]; · iexact C30
        iexact C31
      isplitl [C32 C33 C34 C35 C36 C37 C38 C39 C40]
      · isplitl [C32]; · iexact C32
        isplitl [C33]; · iexact C33
        isplitl [C34]; · iexact C34
        isplitl [C35]; · iexact C35
        isplitl [C36]; · iexact C36
        isplitl [C37]; · iexact C37
        isplitl [C38]; · iexact C38
        isplitl [C39]; · iexact C39
        iexact C40
      isplitl [C41 C42 C43 C44 C45 C46 C47 C48 C49]
      · isplitl [C41]; · iexact C41
        isplitl [C42]; · iexact C42
        isplitl [C43]; · iexact C43
        isplitl [C44]; · iexact C44
        isplitl [C45]; · iexact C45
        isplitl [C46]; · iexact C46
        isplitl [C47]; · iexact C47
        isplitl [C48]; · iexact C48
        iexact C49
      isplitl [C50 C51]
      · isplitl [C50]; · iexact C50
        iexact C51
      isplitl [C52]; · iexact C52
      isplitl [C53]; · iexact C53
      isplitl [C54]; · iexact C54
      isplitl [C55]; · iexact C55
      iexact C56
    isplitl [H0 H1 H2 H3 H4 H5]
    · isplitl [H0]; · iexact H0
      isplitl [H1]; · iexact H1
      isplitl [H2]; · iexact H2
      isplitl [H3]; · iexact H3
      isplitl [H4]; · iexact H4
      iexact H5
    isplitl [O0]; · iexact O0
    isplitl [O1]; · iexact O1
    iexact O2

end Cert.KernelIdeal.Hand

end
-- ==== Proof.FrameIdeal.lean ====
/-
  The run of the whole program around its one region: the region's body is `Body.lean`'s `kernelRun`, its buffers and counters
  are the region's invariant, and the host lines before and after it are the library's. `frame` says the run ends, that the
  arguments end unchanged and that every counter ends at zero.
-/
module

public import proofs.«01_k».proof.Proof.BodyIdeal
public import proofs.«01_k».proof.Proof.Gen.KernelIdeal.Frame
public import Idealize.ShloMosaic.Lib.Pipeline.FrameBody
public import Idealize.ShloMosaic.Lib.Pipeline.FrameSuffixV

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The region's invariant, part by part -/

/-- The body's transfer counters, in the pool's order. -/
abbrev osem0 : Fin 57 → SemLoc sig := fun j => SemLoc.dma j
theorem ownSemFacts0 : Pipeline.OwnSemFacts (cfg0.spec) osem0 := by
  refine ⟨by decide, fun a b h => ?_, fun k w => w.elim0⟩
  injection h

/-- The HBM operands the body's transfers read. -/
def H0 : Finset (Ref sig .tc) := {main_v1, main_v2, main_v3, main_v4, main_v6, main_arg5}
/-- The HBM results the body's transfers write. -/
def R0 : Finset (Ref sig .tc) := {main_v7_0, main_v7_1, main_v7_2}
/-- The buffers the host lines after the region write. -/
def T0 : Finset (Ref sig .tc) := {main_v8, main_v9, main_v10, main_v11}
theorem H0_sub : H0 ⊆ Pipeline.restRefs sig (cfg0.spec) := by decide
theorem R0_sub : R0 ⊆ Pipeline.restRefs sig (cfg0.spec) \ H0 := by decide

theorem ownSems0_eq (c : Dev nD) :
    (Pipeline.ownSems0 (Ix := Unit) (Name := ℕ) (U := Pipeline.UD sig nD τ) (Lvl := ℕ) (Val := Elt F) (τ := τ) osem0 c : sProp 𝕄)
      = iprop(cell c 0 ∗ cell c 1 ∗ cell c 2 ∗ cell c 3 ∗ cell c 4 ∗ cell c 5 ∗ cell c 6 ∗ cell c 7 ∗ cell c 8 ∗ cell c 9 ∗ cell c 10 ∗ cell c 11 ∗ cell c 12 ∗ cell c 13 ∗ cell c 14 ∗ cell c 15 ∗ cell c 16 ∗ cell c 17 ∗ cell c 18 ∗ cell c 19 ∗ cell c 20 ∗ cell c 21 ∗ cell c 22 ∗ cell c 23 ∗ cell c 24 ∗ cell c 25 ∗ cell c 26 ∗ cell c 27 ∗ cell c 28 ∗ cell c 29 ∗ cell c 30 ∗ cell c 31 ∗ cell c 32 ∗ cell c 33 ∗ cell c 34 ∗ cell c 35 ∗ cell c 36 ∗ cell c 37 ∗ cell c 38 ∗ cell c 39 ∗ cell c 40 ∗ cell c 41 ∗ cell c 42 ∗ cell c 43 ∗ cell c 44 ∗ cell c 45 ∗ cell c 46 ∗ cell c 47 ∗ cell c 48 ∗ cell c 49 ∗ cell c 50 ∗ cell c 51 ∗ cell c 52 ∗ cell c 53 ∗ cell c 54 ∗ cell c 55 ∗ cell c 56) := by
  rw [Pipeline.ownSems0_eq_of_list c osem0 [0, 1, 2, 3, 4, 5, 6, 7, 8, 9, 10, 11, 12, 13, 14, 15, 16, 17, 18, 19, 20, 21, 22, 23, 24, 25, 26, 27, 28, 29, 30, 31, 32, 33, 34, 35, 36, 37, 38, 39, 40, 41, 42, 43, 44, 45, 46, 47, 48, 49, 50, 51, 52, 53, 54, 55, 56] (by decide) (by decide)]; rfl

theorem cells0_of_ownSems0 (c : Dev nD) :
    (Pipeline.ownSems0 (Ix := Unit) (Name := ℕ) (U := Pipeline.UD sig nD τ) (Lvl := ℕ) (Val := Elt F) (τ := τ) osem0 c : sProp 𝕄) ⊢ cells0 c := by
  rw [ownSems0_eq]
  iintro ⟨C0, C1, C2, C3, C4, C5, C6, C7, C8, C9, C10, C11, C12, C13, C14, C15, C16, C17, C18, C19, C20, C21, C22, C23, C24, C25, C26, C27, C28, C29, C30, C31, C32, C33, C34, C35, C36, C37, C38, C39, C40, C41, C42, C43, C44, C45, C46, C47, C48, C49, C50, C51, C52, C53, C54, C55, C56⟩
  isplitl [C0 C1 C2 C3 C4]
  · isplitl [C0]; · iexact C0
    isplitl [C1]; · iexact C1
    isplitl [C2]; · iexact C2
    isplitl [C3]; · iexact C3
    iexact C4
  isplitl [C5 C6 C7 C8 C9 C10 C11 C12 C13]
  · isplitl [C5]; · iexact C5
    isplitl [C6]; · iexact C6
    isplitl [C7]; · iexact C7
    isplitl [C8]; · iexact C8
    isplitl [C9]; · iexact C9
    isplitl [C10]; · iexact C10
    isplitl [C11]; · iexact C11
    isplitl [C12]; · iexact C12
    iexact C13
  isplitl [C14 C15 C16 C17 C18 C19 C20 C21 C22]
  · isplitl [C14]; · iexact C14
    isplitl [C15]; · iexact C15
    isplitl [C16]; · iexact C16
    isplitl [C17]; · iexact C17
    isplitl [C18]; · iexact C18
    isplitl [C19]; · iexact C19
    isplitl [C20]; · iexact C20
    isplitl [C21]; · iexact C21
    iexact C22
  isplitl [C23 C24 C25 C26 C27 C28 C29 C30 C31]
  · isplitl [C23]; · iexact C23
    isplitl [C24]; · iexact C24
    isplitl [C25]; · iexact C25
    isplitl [C26]; · iexact C26
    isplitl [C27]; · iexact C27
    isplitl [C28]; · iexact C28
    isplitl [C29]; · iexact C29
    isplitl [C30]; · iexact C30
    iexact C31
  isplitl [C32 C33 C34 C35 C36 C37 C38 C39 C40]
  · isplitl [C32]; · iexact C32
    isplitl [C33]; · iexact C33
    isplitl [C34]; · iexact C34
    isplitl [C35]; · iexact C35
    isplitl [C36]; · iexact C36
    isplitl [C37]; · iexact C37
    isplitl [C38]; · iexact C38
    isplitl [C39]; · iexact C39
    iexact C40
  isplitl [C41 C42 C43 C44 C45 C46 C47 C48 C49]
  · isplitl [C41]; · iexact C41
    isplitl [C42]; · iexact C42
    isplitl [C43]; · iexact C43
    isplitl [C44]; · iexact C44
    isplitl [C45]; · iexact C45
    isplitl [C46]; · iexact C46
    isplitl [C47]; · iexact C47
    isplitl [C48]; · iexact C48
    iexact C49
  isplitl [C50 C51]
  · isplitl [C50]; · iexact C50
    iexact C51
  isplitl [C52]; · iexact C52
  isplitl [C53]; · iexact C53
  isplitl [C54]; · iexact C54
  isplitl [C55]; · iexact C55
  iexact C56

theorem ownSems0_of_cells0 (c : Dev nD) :
    cells0 c ⊢ (Pipeline.ownSems0 (Ix := Unit) (Name := ℕ) (U := Pipeline.UD sig nD τ) (Lvl := ℕ) (Val := Elt F) (τ := τ) osem0 c : sProp 𝕄) := by
  rw [ownSems0_eq]
  iintro ⟨⟨C0, C1, C2, C3, C4⟩, ⟨C5, C6, C7, C8, C9, C10, C11, C12, C13⟩, ⟨C14, C15, C16, C17, C18, C19, C20, C21, C22⟩, ⟨C23, C24, C25, C26, C27, C28, C29, C30, C31⟩, ⟨C32, C33, C34, C35, C36, C37, C38, C39, C40⟩, ⟨C41, C42, C43, C44, C45, C46, C47, C48, C49⟩, ⟨C50, C51⟩, ⟨C52, C53, C54, C55, C56⟩⟩
  isplitl [C0]; · iexact C0
  isplitl [C1]; · iexact C1
  isplitl [C2]; · iexact C2
  isplitl [C3]; · iexact C3
  isplitl [C4]; · iexact C4
  isplitl [C5]; · iexact C5
  isplitl [C6]; · iexact C6
  isplitl [C7]; · iexact C7
  isplitl [C8]; · iexact C8
  isplitl [C9]; · iexact C9
  isplitl [C10]; · iexact C10
  isplitl [C11]; · iexact C11
  isplitl [C12]; · iexact C12
  isplitl [C13]; · iexact C13
  isplitl [C14]; · iexact C14
  isplitl [C15]; · iexact C15
  isplitl [C16]; · iexact C16
  isplitl [C17]; · iexact C17
  isplitl [C18]; · iexact C18
  isplitl [C19]; · iexact C19
  isplitl [C20]; · iexact C20
  isplitl [C21]; · iexact C21
  isplitl [C22]; · iexact C22
  isplitl [C23]; · iexact C23
  isplitl [C24]; · iexact C24
  isplitl [C25]; · iexact C25
  isplitl [C26]; · iexact C26
  isplitl [C27]; · iexact C27
  isplitl [C28]; · iexact C28
  isplitl [C29]; · iexact C29
  isplitl [C30]; · iexact C30
  isplitl [C31]; · iexact C31
  isplitl [C32]; · iexact C32
  isplitl [C33]; · iexact C33
  isplitl [C34]; · iexact C34
  isplitl [C35]; · iexact C35
  isplitl [C36]; · iexact C36
  isplitl [C37]; · iexact C37
  isplitl [C38]; · iexact C38
  isplitl [C39]; · iexact C39
  isplitl [C40]; · iexact C40
  isplitl [C41]; · iexact C41
  isplitl [C42]; · iexact C42
  isplitl [C43]; · iexact C43
  isplitl [C44]; · iexact C44
  isplitl [C45]; · iexact C45
  isplitl [C46]; · iexact C46
  isplitl [C47]; · iexact C47
  isplitl [C48]; · iexact C48
  isplitl [C49]; · iexact C49
  isplitl [C50]; · iexact C50
  isplitl [C51]; · iexact C51
  isplitl [C52]; · iexact C52
  isplitl [C53]; · iexact C53
  isplitl [C54]; · iexact C54
  isplitl [C55]; · iexact C55
  iexact C56

theorem operands_eq (c : Dev nD) :
    (bigSep H0 (fun b => ((c : Thread nD τ).loc b) ↦{fullShare} V m c b) : sProp 𝕄)
      = operands c (V m c main_v1) (V m c main_v2) (V m c main_v3) (V m c main_v4) (V m c main_v6) (V m c main_arg5) := by
  rw [BI.bigSep_eq_bigSepL_of_eq [main_v1, main_v2, main_v3, main_v4, main_v6, main_arg5] (by decide) (by decide)]; rfl

theorem results_eq (c : Dev nD) (G : (b : Ref sig .tc) → Buf (Elt F) ((c : Thread nD τ).loc b)) :
    (bigSep R0 (fun b => ((c : Thread nD τ).loc b) ↦{fullShare} G b) : sProp 𝕄)
      = iprop(pt c yH (G main_v7_0) ∗ pt c xcH (G main_v7_1) ∗ pt c xsH (G main_v7_2)) := by
  rw [BI.bigSep_eq_bigSepL_of_eq [main_v7_0, main_v7_1, main_v7_2] (by decide) (by decide)]; rfl

theorem owned_eq (c : Dev nD) :
    (Pipeline.owned R0 c : sProp 𝕄) = iprop((∃ f, pt c yH f) ∗ (∃ f, pt c xcH f) ∗ (∃ f, pt c xsH f)) := by
  unfold Pipeline.owned; rw [BI.bigSep_eq_bigSepL_of_eq [main_v7_0, main_v7_1, main_v7_2] (by decide) (by decide)]; rfl

theorem scratch_eq (c : Dev nD) :
    (Pipeline.scopedRest (Ix := Unit) (Name := ℕ) (U := Pipeline.UD sig nD τ) (Lvl := ℕ) (Val := Elt F) (cfg0.spec) c : sProp 𝕄) = scratch c :=
  (scopedRest0_eq c).trans rfl

/-! ## The body -/

/-- `W` is what some run of the body leaves in the three results, the operands holding `f0 … f5`. -/
def Leaves (c : Dev nD) (f0 : Bf (F := F) c xH) (f1 : Bf (F := F) c wH) (f2 : Bf (F := F) c wsH) (f3 : Bf (F := F) c bH) (f4 : Bf (F := F) c ldH) (f5 : Bf (F := F) c luH)
    (W : Bf (F := F) c yH × Bf (F := F) c xcH × Bf (F := F) c xsH) : Prop :=
  ∃ (o0 : Bf (F := F) c yH) (o1 : Bf (F := F) c xcH) (o2 : Bf (F := F) c xsH) (d0 : Bf (F := F) c xV) (d1 : Bf (F := F) c wV) (d2 : Bf (F := F) c wsV) (d3 : Bf (F := F) c bV) (d4 : Bf (F := F) c ldV) (d5 : Bf (F := F) c luV) (d6 : Bf (F := F) c codesV) (d7 : Bf (F := F) c xcV) (d8 : Bf (F := F) c xsV) (d9 : Bf (F := F) c sV) (d10 : Bf (F := F) c accV) (d11 : Bf (F := F) c loV) (d12 : Bf (F := F) c hiV) (d13 : Bf (F := F) c dV) (d14 : Bf (F := F) c yV),
    W = (kernelRun c f0 f1 f2 f3 f4 f5 o0 o1 o2 d0 d1 d2 d3 d4 d5 d6 d7 d8 d9 d10 d11 d12 d13 d14).1

/-- The body from its buffers held whole to its buffers held whole, the results then at what a run leaves. -/
theorem body_wp (c : Dev nD) (f0 : Bf (F := F) c xH) (f1 : Bf (F := F) c wH) (f2 : Bf (F := F) c wsH) (f3 : Bf (F := F) c bH) (f4 : Bf (F := F) c ldH) (f5 : Bf (F := F) c luH)
    (o0 : Bf (F := F) c yH) (o1 : Bf (F := F) c xcH) (o2 : Bf (F := F) c xsH) (W0 : Waits sig Unit) (t : Fin cfg0.N) (Q : PUnit → sProp 𝕄) :
    iprop(scratch c ∗ cells0 c ∗ operands c f0 f1 f2 f3 f4 f5 ∗ pt c yH o0 ∗ pt c xcH o1 ∗ pt c xsH o2 ∗ owes (c : Thread nD τ) 0 W0
        ∗ (iprop((scratch c ∗ (∃ W', owes (c : Thread nD τ) 0 W')) ∗ cells0 c ∗ operands c f0 f1 f2 f3 f4 f5
            ∗ ∃ W : Bf (F := F) c yH × Bf (F := F) c xcH × Bf (F := F) c xsH, ⌜Leaves c f0 f1 f2 f3 f4 f5 W⌝ ∗ pt c yH W.1 ∗ pt c xcH W.2.1 ∗ pt c xsH W.2.2) -∗ Q ⟨⟩))
      ⊢ wp frame (wpE (defs₀ (F := F)) Variants.none c none) Set.univ (bodyAt0 t) Q := by
  iintro ⟨⟨⟨%d0, D0⟩, ⟨%d1, D1⟩, ⟨%d2, D2⟩, ⟨%d3, D3⟩, ⟨%d4, D4⟩, ⟨%d5, D5⟩, ⟨%d6, D6⟩, ⟨%d7, D7⟩, ⟨%d8, D8⟩, ⟨%d9, D9⟩, ⟨%d10, D10⟩, ⟨%d11, D11⟩, ⟨%d12, D12⟩, ⟨%d13, D13⟩, ⟨%d14, D14⟩⟩, C, H, O0, O1, O2, HW, K⟩
  iapply ((kernelRun c f0 f1 f2 f3 f4 f5 o0 o1 o2 d0 d1 d2 d3 d4 d5 d6 d7 d8 d9 d10 d11 d12 d13 d14).2 W0 _)
  isplitl [H]; · iexact H
  isplitl [O0]; · iexact O0
  isplitl [O1]; · iexact O1
  isplitl [O2]; · iexact O2
  isplitl [D0]; · iexact D0
  isplitl [D1]; · iexact D1
  isplitl [D2]; · iexact D2
  isplitl [D3]; · iexact D3
  isplitl [D4]; · iexact D4
  isplitl [D5]; · iexact D5
  isplitl [D6]; · iexact D6
  isplitl [D7]; · iexact D7
  isplitl [D8]; · iexact D8
  isplitl [D9]; · iexact D9
  isplitl [D10]; · iexact D10
  isplitl [D11]; · iexact D11
  isplitl [D12]; · iexact D12
  isplitl [D13]; · iexact D13
  isplitl [D14]; · iexact D14
  isplitl [C]; · iexact C
  isplitl [HW]; · iexact HW
  iintro ⟨S, C, H, O0, O1, O2⟩
  iapply K
  isplitl [S]; · iexact S
  isplitl [C]; · iexact C
  isplitl [H]; · iexact H
  iexists (kernelRun c f0 f1 f2 f3 f4 f5 o0 o1 o2 d0 d1 d2 d3 d4 d5 d6 d7 d8 d9 d10 d11 d12 d13 d14).1
  isplitr; · ipureintro; exact ⟨o0, o1, o2, d0, d1, d2, d3, d4, d5, d6, d7, d8, d9, d10, d11, d12, d13, d14, rfl⟩
  isplitl [O0]; · iexact O0
  isplitl [O1]; · iexact O1
  iexact O2

/-! ## The frame -/

/-- The region's proof data: no window; before and after the one point the invariant is the same. -/
def dats : (p : Fin 1) → (c : Dev nD) → Dat τ (Elt F) Unit ℕ (Pipeline.UD sig nD τ) ℕ (cfgs p) c := fun _ c =>
  { A := fun w => w.elim0
    after := fun w => w.elim0
    Φ := fun _ => Pipeline.ΦDR osem0 (cfg0.spec) H0 R0 (V m) c
    q := fun w => w.elim0
    owed := fun _ => 0 }

theorem defs₀_row (t : Fin cfg0.N) :
    defs₀ (F := F) .tc cfg0.body (cfg0.bodyArgs t (cfg0.slots t)) = bodyAt0 t := by
  unfold defs₀; rw [Defs.onTc_tc]

theorem sound_body (c : Dev nD) (t : Fin cfg0.N) :
    iprop(Pipeline.ΦDR osem0 (cfg0.spec) H0 R0 (V m) c ∗ (dats m 0 c).owesAt () t.castSucc)
      ⊢ wp frame (wpE (defs₀ (F := F)) Variants.none c none) Set.univ (bodyAt0 t) fun _ =>
          iprop(Pipeline.ΦDR osem0 (cfg0.spec) H0 R0 (V m) c ∗ (dats m 0 c).owesAt () t.succ) := by
  unfold Pipeline.Dat.owesAt
  rw [show (dats m 0 c).owed t.castSucc = 0 from rfl, show (dats m 0 c).owed t.succ = 0 from rfl]
  rw [Pipeline.ΦDR_eq, operands_eq, owned_eq, scratch_eq]
  iintro ⟨⟨S, G, C, H, ⟨%o0, O0⟩, ⟨%o1, O1⟩, ⟨%o2, O2⟩⟩, ⟨%W0, -, HW⟩⟩
  ihave C := (cells0_of_ownSems0 c) $$ C
  iapply (body_wp c _ _ _ _ _ _ o0 o1 o2 W0 t _)
  isplitl [S]; · iexact S
  isplitl [C]; · iexact C
  isplitl [H]; · iexact H
  isplitl [O0]; · iexact O0
  isplitl [O1]; · iexact O1
  isplitl [O2]; · iexact O2
  isplitl [HW]; · iexact HW
  iintro ⟨⟨S, ⟨%W', HW⟩⟩, C, H, ⟨%W, -, O0, O1, O2⟩⟩
  ihave C := (ownSems0_of_cells0 c) $$ C
  isplitr [HW]
  · isplitl [S]; · iexact S
    isplitl [G]; · iexact G
    isplitl [C]; · iexact C
    isplitl [H]; · iexact H
    isplitl [O0]; · iexists _; iexact O0
    isplitl [O1]; · iexists _; iexact O1
    iexists _; iexact O2
  iexists W'; isplitr; · ipureintro; exact fun _ _ => Or.inl trivial
  iexact HW

theorem body_obligation (c : Dev nD) : BodyObligation (dats (F := F) m 0 c) (defs₀ (F := F)) Variants.none () Set.univ := fun t => by
  rw [defs₀_row, Finset.univ_eq_empty (α := Fin cfg0.W), BI.bigSep_empty, BI.bigSep_empty,
    show (dats m 0 c).Φ t.castSucc = Pipeline.ΦDR osem0 (cfg0.spec) H0 R0 (V m) c from rfl,
    show (dats m 0 c).Φ t.succ = Pipeline.ΦDR osem0 (cfg0.spec) H0 R0 (V m) c from rfl]
  refine triple_restated (sound_body m c t) rfl ?_ fun _ => ?_
  · iintro ⟨P, Q, -⟩
    isplitl [P]; · iexact P
    iexact Q
  · iintro ⟨P, Q⟩
    isplitl [P]; · iexact P
    isplitl [Q]; · iexact Q
    iempintro

/-- @main around the region, at this proof's algebra. -/
theorem hmainD : Pipeline.HMainK (Ix := Unit) (Name := ℕ) (U := Pipeline.UD sig nD τ) (Lvl := ℕ) cfgs 0 defs₀ Variants.none m (main (F := F)) (V m)
      (fun _ => Pipeline.chain ([hostOps1].map StableHlo.seq)) :=
  Pipeline.hmain_around cfgs 0 defs₀ Variants.none m main [hostOps0] [hostOps1] (by simp only [List.Forall]; exact hostOps0_sub)
    (by simp only [List.Forall]; exact hostOps0_fresh) main_chain

theorem tail_writes : ∀ ops ∈ ([hostOps1] : List (List (HloOp τ sig (Elt F)))), ∀ op ∈ ops, ∀ b : Ref sig .tc,
    Proc.devRef .tc b ∈ op.writes → b ∈ T0 := by
  intro ops hops op hop b hb
  simp only [List.mem_cons, List.mem_nil_iff, or_false] at hops
  subst hops
  simp only [hostOps1, List.mem_cons, List.mem_nil_iff, or_false] at hop
  rcases hop with rfl | rfl | rfl | rfl <;>
    simp only [StableHlo.unary_writes, StableHlo.reshape_writes, Finset.mem_singleton] at hb <;>
    (have := Proc.devRef_injective _ hb; subst this; decide)

set_option backward.isDefEq.respectTransparency.types false in
theorem run_main : θ_run defs (onTc (τ := τ) (main (F := F))) (s₀ m ρ)
    (fun r => Pipeline.FramePostR cfgs (dats m) 0 (R0 ∪ T0) (V m) r ∧ r.2.sem = fun _ => 0) :=
  Pipeline.θ_run_frame_dmaR_around (Q' := _) cfgs (dats m) (0 : Fin 1) launch0 osem0 defs₀ Variants.none ownSemFacts0 H0 R0 T0 H0_sub R0_sub m ρ main
    (hbody := fun c => (body_obligation m c).loose) (hshare := fun c => (dats m 0 c).share_full fun w => w.elim0)
    (howed := fun _ _ => rfl) (V₀ := V0 m) (opss := [hostOps1]) (hsub := sfx_sub) (hfresh := sfx_fresh) (hkeep := sfx_keeps) (hT := tail_writes)
    (hmain := hmainD m) (hA := fun _ w => w.elim0)
    (hin := fun _ => .rfl) (hout := fun _ => .rfl)

/-- The frame: the program runs to its end, its arguments end unchanged, every counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => ⟨((h.1 c).2 main_arg0 (Finset.mem_sdiff.mpr ⟨Pipeline.mem_restRefs_of main_arg0 (by decide) (fun w => w.elim0), by decide⟩)).trans (V_main_arg0 m c), ((h.1 c).2 main_arg1 (Finset.mem_sdiff.mpr ⟨Pipeline.mem_restRefs_of main_arg1 (by decide) (fun w => w.elim0), by decide⟩)).trans (V_main_arg1 m c), ((h.1 c).2 main_arg2 (Finset.mem_sdiff.mpr ⟨Pipeline.mem_restRefs_of main_arg2 (by decide) (fun w => w.elim0), by decide⟩)).trans (V_main_arg2 m c), ((h.1 c).2 main_arg3 (Finset.mem_sdiff.mpr ⟨Pipeline.mem_restRefs_of main_arg3 (by decide) (fun w => w.elim0), by decide⟩)).trans (V_main_arg3 m c), ((h.1 c).2 main_arg4 (Finset.mem_sdiff.mpr ⟨Pipeline.mem_restRefs_of main_arg4 (by decide) (fun w => w.elim0), by decide⟩)).trans (V_main_arg4 m c), ((h.1 c).2 main_arg5 (Finset.mem_sdiff.mpr ⟨Pipeline.mem_restRefs_of main_arg5 (by decide) (fun w => w.elim0), by decide⟩)).trans (V_main_arg5 m c)⟩, h.2⟩) (run_main m ρ)

end Cert.KernelIdeal.Hand

end
-- ==== Proof.Quant.lean ====
/-
  The scale of a pixel, as the kernel's integer words compute it and as the quantiser is written. `kscale y` and `kinv y` are
  the words the kernel shifts into an exponent field, read as numbers; `rscale a` is the least power of two above `a / 448`.
  `scale_eq` says they agree where the precondition holds: there the scale is a positive real and the second word its inverse.
-/
module

public import Idealize.ShloMosaic.Lib.Pointwise
public import Idealize.ShloMosaic.Lib.SortNet.Extract
public import Idealize.ShloMosaic.Lib.IdealHost
public import Mathlib.Algebra.Order.Archimedean.Basic

@[expose] public section

set_option maxRecDepth 16384

noncomputable section

open Idealize.ShloMosaic

namespace Cert.Quant

/-- The number whose exponent field is `k` and whose other bits are zero. -/
abbrev pw (k : ℕ) : EReal := Ideal.ofBits .f32 (IntOp.shli ArithUnit.vector (BitVec.ofNat 32 k) 23#32)

/-- The biased exponent of `y`, by counting thresholds. -/
def kbias (y : EReal) : BitVec 32 :=
  Finset.fold IntOp.maxsi 2147483648#32 (fun k : Fin 256 => if y < pw ↑k then 0#32 else BitVec.ofNat 32 ↑k) Finset.univ

/-- The exponent of the scale. -/
def kexpo (y : EReal) : BitVec 32 :=
  Scalar.select (IntOp.cmpi CmpIPredicate.eq (kbias y) 0#32) 0#32 (IntOp.subi (kbias y) 126#32)

/-- The kernel's scale. -/
def kscale (y : EReal) : EReal := Ideal.ofBits .f32 (IntOp.shli ArithUnit.vector (IntOp.addi (kexpo y) 127#32) 23#32)
/-- The kernel's inverse scale. -/
def kinv (y : EReal) : EReal :=
  Ideal.ofBits .f32 (IntOp.shli ArithUnit.vector (IntOp.addi (IntOp.subi 0#32 (kexpo y)) 127#32) 23#32)

/-- The greatest absolute value of a pixel's channels. -/
def amax (r : Fin 2560 → EReal) : EReal :=
  Finset.fold max (Ideal.ofBits .f32 4286578688#32) (fun l => FloatOps.absf (F := Ideal) (φ := .f32) (r l)) Finset.univ

/-- The factor 1/448 as the programs write it. -/
abbrev c448 : EReal := Ideal.ofBits .f32 991054117#32

/-- The power of two number `k` of the quantiser's list. -/
abbrev p2 (k : ℕ) : EReal := FloatOps.exp2 (F := Ideal) (φ := .f32) (FloatOps.sitofp (F := Ideal) .f32 (IntOp.subi (BitVec.ofNat 32 k) 126#32))

/-- The quantiser's scale: the least power of two above `a / 448`, one for a pixel of zeros. -/
def rscale (a : EReal) : EReal :=
  if a = 0 then 1 else
    Finset.fold min (Ideal.ofBits .f32 2139095040#32) (fun k : Fin 254 => if a * c448 < p2 ↑k then p2 ↑k else Ideal.ofBits .f32 2139095040#32) Finset.univ

/-- Where the two agree: a pixel of zeros, or one whose largest value divided by 448 is a normal number. -/
def Ok (a : EReal) : Prop :=
  a = 0 ∨ (Ideal.ofBits .f32 8388608#32 ≤ a * c448 ∧ a ≤ Ideal.ofBits .f32 2139029504#32)

theorem word_fields : ∀ k : Fin 256, ((IntOp.shli ArithUnit.vector (BitVec.ofNat 32 k.val) 23#32).extractLsb' (8 + 23) 1 == 1#1) = false
    ∧ ((IntOp.shli ArithUnit.vector (BitVec.ofNat 32 k.val) 23#32).extractLsb' 23 8).toNat = k.val
    ∧ ((IntOp.shli ArithUnit.vector (BitVec.ofNat 32 k.val) 23#32).extractLsb' 0 23).toNat = 0 := by
  decide +kernel

/-- A word with sign and fraction zero is the power of two its exponent field names. -/
theorem ofBits_pow (w : BitVec 32) (k : ℕ) (h1 : 1 ≤ k) (h2 : k ≤ 254) (hs : (w.extractLsb' (8 + 23) 1 == 1#1) = false)
    (he : (w.extractLsb' 23 8).toNat = k) (hf : (w.extractLsb' 0 23).toNat = 0) :
    Ideal.ofBits .f32 w = (((2 : ℝ) ^ ((k : ℤ) - 127) : ℝ) : EReal) := by
  show Ideal.ieee 8 23 w = _
  unfold Ideal.ieee
  simp only [hs, he, hf]
  rw [if_neg (by omega), if_neg (by omega)]
  congr 1
  simp only [Bool.false_eq_true, if_false, one_mul, add_zero]
  rw [show ((k : ℤ) - (2 ^ (8 - 1) - 1) - (23 : ℕ)) = ((k : ℤ) - 127) - 23 by norm_num, zpow_sub₀ (by norm_num : (2 : ℝ) ≠ 0)]
  push_cast
  norm_num
  exact mul_div_cancel₀ _ (by norm_num)

theorem ofBits_none (w : BitVec 32) (hs : (w.extractLsb' (8 + 23) 1 == 1#1) = false)
    (he : (w.extractLsb' 23 8).toNat = 0) (hf : (w.extractLsb' 0 23).toNat = 0) : Ideal.ofBits .f32 w = 0 := by
  show Ideal.ieee 8 23 w = _
  unfold Ideal.ieee
  simp only [hs, he, hf]
  simp

theorem ofBits_all (w : BitVec 32) (hs : (w.extractLsb' (8 + 23) 1 == 1#1) = false)
    (he : (w.extractLsb' 23 8).toNat = 255) (hf : (w.extractLsb' 0 23).toNat = 0) : Ideal.ofBits .f32 w = ⊤ := by
  show Ideal.ieee 8 23 w = _
  unfold Ideal.ieee
  simp only [hs, he, hf]
  simp

theorem pw_eq (k : ℕ) (h1 : 1 ≤ k) (h2 : k ≤ 254) : pw k = (((2 : ℝ) ^ ((k : ℤ) - 127) : ℝ) : EReal) :=
  have h := word_fields ⟨k, by omega⟩
  ofBits_pow _ k h1 h2 h.1 h.2.1 h.2.2

theorem pw_zero : pw 0 = 0 :=
  have h := word_fields ⟨0, by omega⟩
  ofBits_none _ h.1 h.2.1 h.2.2

theorem pw_top : pw 255 = ⊤ :=
  have h := word_fields ⟨255, by omega⟩
  ofBits_all _ h.1 h.2.1 h.2.2

theorem p2_eq (k : ℕ) (h : k < 254) : p2 k = (((2 : ℝ) ^ ((k : ℤ) - 126) : ℝ) : EReal) := by
  have hw : ∀ k : Fin 254, (IntOp.subi (BitVec.ofNat 32 k.val) 126#32).toInt = (k.val : ℤ) - 126 := by decide +kernel
  show Ideal.exp2 (((IntOp.subi (BitVec.ofNat 32 k) 126#32).toInt : ℝ) : EReal) = _
  rw [hw ⟨k, h⟩, Ideal.exp2_coe]
  congr 1
  exact Real.rpow_intCast 2 _

theorem ofBits_inf : Ideal.ofBits .f32 2139095040#32 = ⊤ := by simp [Ideal.ofBits, Ideal.ieee]

theorem kbias_of (y : EReal) (b : ℕ) (hb : b < 256) (hle : ¬ y < pw b) (hgt : ∀ k, b < k → k < 256 → y < pw k) :
    kbias y = BitVec.ofNat 32 b := by
  have hI : ∀ n : Fin 256, (BitVec.ofNat 32 n.val).toInt = (n.val : ℤ) := by decide +kernel
  obtain ⟨-, h2, h3⟩ := SortNet.fold_maxsi_spec (fun k : Fin 256 => if y < pw ↑k then 0#32 else BitVec.ofNat 32 ↑k) Finset.univ 2147483648#32
  have hB := h2 ⟨b, hb⟩ (Finset.mem_univ _)
  simp only [if_neg hle] at hB
  rw [hI ⟨b, hb⟩] at hB
  refine BitVec.eq_of_toInt_eq ?_
  rw [hI ⟨b, hb⟩]
  refine le_antisymm ?_ hB
  unfold kbias
  rcases h3 with h3 | ⟨i, -, h3⟩
  · rw [h3] at hB
    have : (2147483648#32).toInt = -2147483648 := by decide
    simp only [this] at hB
    omega
  · rw [h3]
    by_cases hi : y < pw ↑i
    · simp only [if_pos hi]; simp
    · simp only [if_neg hi]
      rw [hI i]
      by_contra hlt
      exact hi (hgt _ (by simpa using hlt) i.isLt)

theorem rscale_of (a : EReal) (h0 : a ≠ 0) (b : ℕ) (hb : b < 254) (hlt : a * c448 < p2 b) (hge : ∀ k, k < b → ¬ a * c448 < p2 k) :
    rscale a = p2 b := by
  unfold rscale
  rw [if_neg h0]
  refine le_antisymm ?_ ?_
  · refine (Finset.fold_min_le _).2 (Or.inr ⟨⟨b, hb⟩, Finset.mem_univ _, ?_⟩)
    simp only [if_pos hlt]; exact le_refl _
  · refine (Finset.le_fold_min _).2 ⟨?_, fun k _ => ?_⟩
    · rw [ofBits_inf]; exact le_top
    · split
      · rename_i hk
        have hkb : b ≤ k.val := by by_contra hc; exact hge _ (by omega) hk
        rw [p2_eq b hb, p2_eq k.val k.isLt]
        exact EReal.coe_le_coe_iff.2 (zpow_le_zpow_right₀ (by norm_num : (1 : ℝ) ≤ 2) (by omega))
      · rw [ofBits_inf]; exact le_top

theorem c448_eq : ∃ r : ℝ, 0 < r ∧ r ≤ 1 / 4 ∧ c448 = (r : EReal) := by
  refine ⟨(8388608 + 1198373 : ℝ) * 2 ^ (-32 : ℤ), by positivity, by norm_num, ?_⟩
  simp [c448, Ideal.ofBits, Ideal.ieee, -EReal.coe_mul]
  norm_num

theorem lo_eq : Ideal.ofBits .f32 8388608#32 = (((2 : ℝ) ^ (-126 : ℤ) : ℝ) : EReal) := by
  simp [Ideal.ofBits, Ideal.ieee, -EReal.coe_mul]
  norm_num

theorem hi_lt : ∃ r : ℝ, r < 2 ^ 128 ∧ Ideal.ofBits .f32 2139029504#32 = (r : EReal) := by
  refine ⟨(8388608 + 8323072 : ℝ) * 2 ^ (104 : ℤ), by norm_num, ?_⟩
  simp [Ideal.ofBits, Ideal.ieee, -EReal.coe_mul]
  norm_num

theorem words_of : ∀ b : Fin 253, 1 ≤ b.val →
    IntOp.addi (Scalar.select (IntOp.cmpi CmpIPredicate.eq (BitVec.ofNat 32 b.val) 0#32) 0#32 (IntOp.subi (BitVec.ofNat 32 b.val) 126#32)) 127#32 = BitVec.ofNat 32 (b.val + 1)
    ∧ IntOp.addi (IntOp.subi 0#32 (Scalar.select (IntOp.cmpi CmpIPredicate.eq (BitVec.ofNat 32 b.val) 0#32) 0#32 (IntOp.subi (BitVec.ofNat 32 b.val) 126#32))) 127#32 = BitVec.ofNat 32 (253 - b.val) := by
  decide +kernel

theorem scale_eq (a : EReal) (h : Ok a) :
    ∃ s : ℝ, 0 < s ∧ rscale a = (s : EReal) ∧ kscale (a * c448) = (s : EReal) ∧ kinv (a * c448) = ((s⁻¹ : ℝ) : EReal) := by
  rcases h with rfl | ⟨hlo, hhi⟩
  · refine ⟨1, one_pos, by unfold rscale; rw [if_pos rfl]; rfl, ?_, ?_⟩
    all_goals
      have hb : kbias (0 * c448) = BitVec.ofNat 32 0 := by
        refine kbias_of _ 0 (by omega) ?_ ?_
        · rw [pw_zero, zero_mul]; exact lt_irrefl _
        · intro k hk hk'
          rw [zero_mul]
          rcases Nat.lt_or_ge k 255 with h | h
          · rw [pw_eq k (by omega) (by omega)]; exact_mod_cast zpow_pos (by norm_num : (0 : ℝ) < 2) _
          · have : k = 255 := by omega
            subst this; rw [pw_top]; exact EReal.zero_lt_top
      have hp : pw 127 = ((1 : ℝ) : EReal) := by rw [pw_eq 127 (by omega) (by omega)]; norm_num
    · unfold kscale kexpo; rw [hb]; exact hp
    · unfold kinv kexpo; rw [hb, inv_one]; exact hp
  · obtain ⟨cr, hc0, hc4, hc⟩ := c448_eq
    obtain ⟨hr, hr128, hh⟩ := hi_lt
    rw [hh] at hhi
    rw [lo_eq] at hlo
    have hane : a ≠ ⊥ := by
      rintro rfl
      rw [hc, EReal.bot_mul_coe_of_pos hc0] at hlo
      exact absurd hlo (not_le.2 (EReal.bot_lt_coe _))
    have hatop : a ≠ ⊤ := by rintro rfl; exact absurd hhi (not_le.2 (EReal.coe_lt_top _))
    lift a to ℝ using ⟨hatop, hane⟩
    rw [hc] at hlo
    have hlo' : (2 : ℝ) ^ (-126 : ℤ) ≤ a * cr := by exact_mod_cast hlo
    have hhi' : a ≤ hr := by exact_mod_cast hhi
    have hpos : 0 < a * cr := lt_of_lt_of_le (zpow_pos (by norm_num) _) hlo'
    have ha0 : 0 < a := by
      by_contra hn
      exact absurd hpos (not_lt.2 (mul_nonpos_of_nonpos_of_nonneg (not_lt.1 hn) hc0.le))
    have hup : a * cr < (2 : ℝ) ^ (126 : ℤ) := by
      have h1 : a < 2 ^ 128 := lt_of_le_of_lt hhi' hr128
      have h2 : a * cr ≤ a * (1 / 4) := mul_le_mul_of_nonneg_left hc4 ha0.le
      have h3 : (2 : ℝ) ^ (126 : ℤ) = 2 ^ 128 * (1 / 4) := by norm_num
      rw [h3]; linarith
    obtain ⟨L, hL1, hL2⟩ := exists_mem_Ico_zpow hpos (one_lt_two (α := ℝ))
    have hLlo : -127 < L := by
      have := lt_of_le_of_lt hlo' hL2
      have := (zpow_lt_zpow_iff_right₀ (by norm_num : (1 : ℝ) < 2)).1 this
      omega
    have hLhi : L < 126 := (zpow_lt_zpow_iff_right₀ (by norm_num : (1 : ℝ) < 2)).1 (lt_of_le_of_lt hL1 hup)
    obtain ⟨b, hb⟩ : ∃ b : ℕ, (b : ℤ) = L + 127 := ⟨(L + 127).toNat, by omega⟩
    have hb1 : 1 ≤ b := by omega
    have hb2 : b < 253 := by omega
    have hmul : (a : EReal) * c448 = ((a * cr : ℝ) : EReal) := by rw [hc, EReal.coe_mul]
    have hbias : kbias ((a : EReal) * c448) = BitVec.ofNat 32 b := by
      rw [hmul]
      refine kbias_of _ b (by omega) ?_ ?_
      · rw [pw_eq b hb1 (by omega)]
        rw [show (b : ℤ) - 127 = L by omega]
        exact not_lt.2 (EReal.coe_le_coe_iff.2 hL1)
      · intro k hk hk'
        rcases Nat.lt_or_ge k 255 with h | h
        · rw [pw_eq k (by omega) (by omega)]
          refine EReal.coe_lt_coe_iff.2 (lt_of_lt_of_le hL2 (zpow_le_zpow_right₀ (by norm_num) (by omega)))
        · have : k = 255 := by omega
          subst this; rw [pw_top]; exact EReal.coe_lt_top _
    obtain ⟨hw1, hw2⟩ := words_of ⟨b, hb2⟩ hb1
    refine ⟨(2 : ℝ) ^ ((b : ℤ) - 126), zpow_pos (by norm_num) _, ?_, ?_, ?_⟩
    · rw [rscale_of (a : EReal) (by exact_mod_cast ha0.ne') b (by omega) ?_ ?_, p2_eq b (by omega)]
      · rw [hmul, p2_eq b (by omega), show (b : ℤ) - 126 = L + 1 by omega]
        exact EReal.coe_lt_coe_iff.2 hL2
      · intro k hk
        rw [hmul, p2_eq k (by omega)]
        exact not_lt.2 (EReal.coe_le_coe_iff.2 (le_trans (zpow_le_zpow_right₀ (by norm_num) (by omega)) hL1))
    · unfold kscale kexpo
      rw [hbias, hw1]
      refine (pw_eq (b + 1) (by omega) (by omega)).trans ?_
      congr 2; push_cast; ring
    · unfold kinv kexpo
      rw [hbias, hw2]
      refine (pw_eq (253 - b) (by omega) (by omega)).trans ?_
      rw [← zpow_neg]
      congr 2
      push_cast [Nat.cast_sub (show b ≤ 253 by omega)]; ring

/-- Dividing one by a positive real is its inverse. -/
theorem div_one_coe (s : ℝ) (hs : 0 < s) : Ideal.div 1 (s : EReal) = ((s⁻¹ : ℝ) : EReal) := by
  unfold Ideal.div
  rw [if_neg (by exact_mod_cast hs.ne'), one_mul]
  rfl

end Cert.Quant
-- ==== Proof.Shift.lean ====
/-
  Pixels and their neighbours. The kernel's rows are numbered image, column, row; `pix` is a pixel's number, `rowOf kh h` the row
  a roll brings to row `h` (cyclic), and `shv kh kw f` reads `f` at the neighbour, zero past the image's left and right border.
-/
module

public import Idealize.ShloMosaic.Lib.Pointwise

@[expose] public section

noncomputable section

namespace Cert.Shift

/-- The number of the pixel in image `b`, column `w`, row `h`. -/
def pix (b : Fin 2) (w : Fin 12) (h : Fin 8) : Fin 192 := ⟨(b.val * 12 + w.val) * 8 + h.val, by omega⟩
/-- Row `h + kh - 1`, cyclically. -/
def rowOf (kh : Fin 3) (h : Fin 8) : Fin 8 := ⟨(h.val + kh.val + 7) % 8, by omega⟩
/-- `f` at the neighbour `(kh - 1, kw - 1)` of a pixel, zero past the border at left and right. -/
def shv (kh kw : Fin 3) (f : Fin 192 → EReal) (b : Fin 2) (w : Fin 12) (h : Fin 8) : EReal :=
  if hw : 1 ≤ w.val + kw.val ∧ w.val + kw.val ≤ 12 then f (pix b ⟨w.val + kw.val - 1, by omega⟩ (rowOf kh h)) else 0

end Cert.Shift
-- ==== Proof.Loads.lean ====
/-
  What the kernel's quantising part leaves in its scratch buffers, as values: `qv` and `sv` are a pixel's codes and scale from its
  row of channels. The codes buffer holds `qv` of every row (`codes_at`); the scale buffer's middle plane holds `sv`, the two
  outer planes the same with one image row set to zero (`plane_at`); the two transferred results hold `qv` and `sv` again.
-/
module

import all proofs.«01_k».proof.Proof.BodyIdeal
public import proofs.«01_k».proof.Proof.BodyIdeal
public import proofs.«01_k».proof.Proof.Quant
public import proofs.«01_k».proof.Proof.Shift
public import Idealize.ShloMosaic.Lib.Pointwise
public import Idealize.ShloMosaic.Lib.WritesUnit

@[expose] public section

set_option maxRecDepth 16384

noncomputable section

namespace Cert.KernelIdeal.Hand

open Cert.KernelIdeal Cert.KernelIdeal.Gen
open Idealize.ShloMosaic Idealize.ShloMosaic.TcCoe Idealize.SL.Sem
open Cert.Quant Cert.Shift kernelRun.sl

/-- The scale of a row of channels. -/
noncomputable def sv (row : Fin 2560 → EReal) : EReal := kscale (amax row * c448)
/-- The code of one channel of a row. -/
noncomputable def qv (row : Fin 2560 → EReal) (l : Fin 2560) : EReal :=
  min (Ideal.ofBits .f32 1138753536#32) (max (Ideal.ofBits .f32 3286237184#32) (row l * kinv (amax row * c448)))

theorem pay2_at (x : FVec Ideal S32x2560 .bf16) (r : Fin 32) :
    k0_pay2 (F := Ideal) x (ix2 r 0) = kexpo (amax (fun l => x (ix2 r l)) * c448) := by
  pointwise [k0_pay2]
  rfl
theorem codes_pay (x : FVec Ideal S32x2560 .bf16) (r : Fin 32) (l : Fin 2560) :
    k0_pay6 (F := Ideal) x (k0_pay2 (F := Ideal) x) (ix2 r l) = qv (fun l => x (ix2 r l)) l := by
  pointwise [k0_pay6, k0_pay5]
  rw [pay2_at]
  rfl
theorem scale_pay (x : FVec Ideal S32x2560 .bf16) (r : Fin 32) (l : Fin 128) :
    k0_pay4 (F := Ideal) (k0_pay3 (F := Ideal) x) (ix3 0 r l) = sv (fun l => x (ix2 r l)) := by
  pointwise [k0_pay4, k0_pay3]
  rw [pay2_at]
  rfl

section
variable (c : Dev nD) (f0 : Bf (F := Ideal) c xH) (d0 : Bf (F := Ideal) c xV)

/-- A pixel's channels, as the first operand holds them. -/
noncomputable def row (p : Fin 192) : Fin 2560 → EReal := fun l => (show S192x2560.Idx → EReal from f0) (ix2 p l)

/-- Thirty-two rows of the staged first operand, from row `n`. -/
noncomputable abbrev xload (n : ℕ) (inb : ∀ a, (![n, 0] : Fin 2 → ℕ) a + S32x2560.size a ≤ S192x2560.size a) : FVec Ideal S32x2560 .bf16 :=
  View.readAt (Elt Ideal) xV.view (Rect.unit (s := S192x2560) ![n, 0] S32x2560.size inb).toLoadRect (View.write (Elt Ideal) xV.view d0 (dma0 c f0) Finset.univ)

theorem idx_rows (n : ℕ) (inb) (r : Fin 32) (l : Fin 2560) (hn : n + r.val < 192) :
    (Rect.unit (s := S192x2560) ![n, 0] S32x2560.size inb).toLoadRect.idx (ix2 r l) = ix2 (⟨n + r.val, hn⟩ : Fin 192) l := by
  funext a; apply Fin.ext; fin_cases a <;> simp [LoadRect.idx, Rect.toLoadRect, Rect.unit]

theorem xload_row (n : ℕ) (inb) (r : Fin 32) (hn : n + r.val < 192) :
    (fun l => xload c f0 d0 n inb (ix2 r l)) = row c f0 ⟨n + r.val, hn⟩ := by
  funext l
  show View.read (Elt Ideal) xV.view (View.write (Elt Ideal) xV.view d0 (dma0 c f0) Finset.univ) ((Rect.unit (s := S192x2560) ![n, 0] S32x2560.size inb).toLoadRect.idx (ix2 r l)) = _
  rw [View.read_write_univ, idx_rows n inb r l hn]
  rfl

theorem inb_rows (i : Fin 6) : ∀ a, (![32 * i.val, 0] : Fin 2 → ℕ) a + S32x2560.size a ≤ S192x2560.size a := by
  intro a; fin_cases a
  · show 32 * i.val + 32 ≤ 192; omega
  · show 0 + 2560 ≤ 2560; omega

/-- Rows `32 i` to `32 i + 31`. -/
noncomputable abbrev xblk (i : Fin 6) : FVec Ideal S32x2560 .bf16 := xload c f0 d0 (32 * i.val) (inb_rows i)

/-- The store of a block's codes. -/
noncomputable abbrev cpiece (i : Fin 6) : View.Piece (Elt Ideal) S192x2560 EltTy.fp8e4m3 :=
  ⟨Rect.unit ![32 * i.val, 0] S32x2560.size (inb_rows i), k0_pay6 (F := Ideal) (xblk c f0 d0 i) (k0_pay2 (F := Ideal) (xblk c f0 d0 i))⟩

theorem codes_list : D6_6 c f0 d0 = ([5, 4, 3, 2, 1, 0] : List (Fin 6)).map (cpiece c f0 d0) := rfl

theorem fin6 (i : Fin 6) : i ∈ ([5, 4, 3, 2, 1, 0] : List (Fin 6)) := by revert i; decide

/-- The codes buffer. -/
theorem codes_at (p : Fin 192) (l : Fin 2560) : v866 c f0 d0 (ix2 p l) = qv (row c f0 p) l := by
  show codesV.view.read (Elt Ideal) (codesV.view.writes (Elt Ideal) codesV.view.junk (D6_6 c f0 d0)) ((Rect.unit (s := S192x2560) ![0, 0] S192x2560.size inb_S192x2560_S192x2560_0_0).toLoadRect.idx (ix2 p l)) = _
  have e : (Rect.unit (s := S192x2560) ![0, 0] S192x2560.size inb_S192x2560_S192x2560_0_0).toLoadRect.idx (ix2 p l) = ix2 p l := by
    funext a; apply Fin.ext; fin_cases a <;> simp [LoadRect.idx, Rect.toLoadRect, Rect.unit]
  rw [e, codes_list]
  refine View.read_writes_apply_of_pieces (Val := Elt Ideal) codesV.view _ (fun y : S192x2560.Idx => qv (row c f0 (y 0)) (y 1)) _ ?_ (ix2 p l) ?_
  · intro q hq x
    obtain ⟨i, -, rfl⟩ := List.mem_map.1 hq
    obtain ⟨r, k, rfl⟩ : ∃ (r : Fin 32) (k : Fin 2560), x = ix2 r k := ⟨x 0, x 1, by funext a; fin_cases a <;> rfl⟩
    refine (codes_pay _ r k).trans ?_
    rw [xload_row c f0 d0 (32 * i.val) (inb_rows i) r (by omega)]
    congr 2
    all_goals apply Fin.ext
    · show 32 * i.val + r.val = 32 * i.val + 1 * r.val; omega
    · show k.val = 0 + 1 * k.val; omega
  · refine ⟨_, List.mem_map_of_mem (fin6 ⟨p.val / 32, by omega⟩), ?_⟩
    rw [Rect.mem_set_unit]
    intro a; fin_cases a
    · show 32 * (p.val / 32) ≤ p.val ∧ p.val < 32 * (p.val / 32) + 32; omega
    · show 0 ≤ l.val ∧ l.val < 0 + 2560; omega

theorem inb_planes (i : Fin 6) : ∀ a, (![1, 32 * i.val, 0] : Fin 3 → ℕ) a + S1x32x128.size a ≤ S3x192x128.size a := by
  intro a; fin_cases a
  · show 1 + 1 ≤ 3; omega
  · show 32 * i.val + 32 ≤ 192; omega
  · show 0 + 128 ≤ 128; omega

/-- The store of a block's scales into the middle plane. -/
noncomputable abbrev spiece (i : Fin 6) : View.Piece (Elt Ideal) S3x192x128 EltTy.f32 :=
  ⟨Rect.unit ![1, 32 * i.val, 0] S1x32x128.size (inb_planes i), k0_pay4 (F := Ideal) (k0_pay3 (F := Ideal) (xblk c f0 d0 i))⟩

theorem scales_list : D9_6 c f0 d0 = ([5, 4, 3, 2, 1, 0] : List (Fin 6)).map (spiece c f0 d0) := rfl

theorem scales_at (p : Fin 192) (l : Fin 128) :
    sV.view.read (Elt Ideal) (sV.view.writes (Elt Ideal) sV.view.junk (D9_6 c f0 d0)) (ix3 1 p l) = sv (row c f0 p) := by
  rw [scales_list]
  refine View.read_writes_apply_of_pieces (Val := Elt Ideal) sV.view _ (fun y : S3x192x128.Idx => sv (row c f0 (y 1))) _ ?_ (ix3 1 p l) ?_
  · intro q hq x
    obtain ⟨i, -, rfl⟩ := List.mem_map.1 hq
    obtain ⟨r, k, rfl⟩ : ∃ (r : Fin 32) (k : Fin 128), x = ix3 0 r k := ⟨x 1, x 2, by
      funext a; fin_cases a
      · exact Fin.ext (by have : (x 0).val < 1 := (x 0).isLt; show (x 0).val = 0; omega)
      · rfl
      · rfl⟩
    refine (scale_pay _ r k).trans ?_
    rw [xload_row c f0 d0 (32 * i.val) (inb_rows i) r (by omega)]
    congr 2
    apply Fin.ext
    show 32 * i.val + r.val = 32 * i.val + 1 * r.val; omega
  · refine ⟨_, List.mem_map_of_mem (fin6 ⟨p.val / 32, by omega⟩), ?_⟩
    rw [Rect.mem_set_unit]
    intro a; fin_cases a
    · show 1 ≤ 1 ∧ 1 < 1 + 1; omega
    · show 32 * (p.val / 32) ≤ p.val ∧ p.val < 32 * (p.val / 32) + 32; omega
    · show 0 ≤ l.val ∧ l.val < 0 + 128; omega

theorem mid_at (p : Fin 192) (l : Fin 128) : v714 c f0 d0 (ix3 0 p l) = sv (row c f0 p) := by
  show sV.view.read (Elt Ideal) (sV.view.writes (Elt Ideal) sV.view.junk (D9_6 c f0 d0)) ((Rect.unit (s := S3x192x128) ![1, 0, 0] S1x192x128.size inb_S3x192x128_S1x192x128_1_0_0).toLoadRect.idx (ix3 0 p l)) = _
  have e : (Rect.unit (s := S3x192x128) ![1, 0, 0] S1x192x128.size inb_S3x192x128_S1x192x128_1_0_0).toLoadRect.idx (ix3 0 p l) = ix3 1 p l := by
    funext a; apply Fin.ext; fin_cases a <;> simp [LoadRect.idx, Rect.toLoadRect, Rect.unit]
  rw [e, scales_at]

/-- The image row of a pixel, as the kernel computes it. -/
theorem rem_at (p : Fin 192) (l : Fin 128) : kernelRun.sl.r (ix2 p l) = BitVec.ofNat 32 (p.val % 8) := by
  show k0_pay1 (iota Kind.tc S192x128 32 [1 - 1] _) 8#32 0#1 1#32 (ix2 p l) = _
  pointwise [k0_pay1]
  revert p
  decide +kernel

theorem pay63_at (v : FVec Ideal S1x192x128 .f32) (p : Fin 192) (l : Fin 128) :
    k0_pay63 (F := Ideal) kernelRun.sl.r v (ix3 0 p l) = if p.val % 8 = 7 then 0 else v (ix3 0 p l) := by
  pointwise [k0_pay63, k0_pay62]
  rw [rem_at]
  have hd : ∀ p : Fin 192, IntOp.cmpi CmpIPredicate.eq (BitVec.ofNat 32 (p.val % 8)) 7#32 = if p.val % 8 = 7 then 1#1 else 0#1 := by decide +kernel
  rw [hd]
  split <;> rfl
theorem pay64_at (v : FVec Ideal S1x192x128 .f32) (p : Fin 192) (l : Fin 128) :
    k0_pay64 (F := Ideal) kernelRun.sl.r v (ix3 0 p l) = if p.val % 8 = 0 then 0 else v (ix3 0 p l) := by
  pointwise [k0_pay64, k0_pay62]
  rw [rem_at]
  have hd : ∀ p : Fin 192, IntOp.cmpi CmpIPredicate.eq (BitVec.ofNat 32 (p.val % 8)) 0#32 = if p.val % 8 = 0 then 1#1 else 0#1 := by decide +kernel
  rw [hd]
  split <;> rfl

/-- The scale buffer when all is stored. -/
noncomputable abbrev sbuf (y : S3x192x128.Idx) : EReal := sV.view.read (Elt Ideal) (sV.view.writes (Elt Ideal) sV.view.junk (D9_8 c f0 d0)) y

theorem sbuf_2 (p : Fin 192) (l : Fin 128) : sbuf c f0 d0 (ix3 2 p l) = if p.val % 8 = 0 then 0 else sv (row c f0 p) := by
  refine (View.read_writes_cons_unit_of_mem (Val := Elt Ideal) sV.view _ (off := ![2, 0, 0]) (off' := ![2, 0, 0]) (size := S1x192x128.size) inb_S3x192x128_S1x192x128_2_0_0 _ _ _ (ix3 0 p l) rfl ?_).trans ?_
  · intro a; fin_cases a <;> simp
  · refine (pay64_at _ p l).trans ?_
    rw [mid_at]
theorem sbuf_0 (p : Fin 192) (l : Fin 128) : sbuf c f0 d0 (ix3 0 p l) = if p.val % 8 = 7 then 0 else sv (row c f0 p) := by
  refine (View.read_writes_cons_unit_of_not_mem (Val := Elt Ideal) sV.view _ (off := ![2, 0, 0]) (off' := ![2, 0, 0]) (size := S1x192x128.size) inb_S3x192x128_S1x192x128_2_0_0 _ _ _ rfl 0 (Or.inl (by show 0 < 2; omega))).trans ?_
  refine (View.read_writes_cons_unit_of_mem (Val := Elt Ideal) sV.view _ (off := ![0, 0, 0]) (off' := ![0, 0, 0]) (size := S1x192x128.size) inb_S3x192x128_S1x192x128_0_0_0 _ _ _ (ix3 0 p l) rfl ?_).trans ?_
  · intro a; fin_cases a <;> simp
  · refine (pay63_at _ p l).trans ?_
    rw [mid_at]
theorem sbuf_1 (p : Fin 192) (l : Fin 128) : sbuf c f0 d0 (ix3 1 p l) = sv (row c f0 p) := by
  refine (View.read_writes_cons_unit_of_not_mem (Val := Elt Ideal) sV.view _ (off := ![2, 0, 0]) (off' := ![2, 0, 0]) (size := S1x192x128.size) inb_S3x192x128_S1x192x128_2_0_0 _ _ _ rfl 0 (Or.inl (by show 1 < 2; omega))).trans ?_
  refine (View.read_writes_cons_unit_of_not_mem (Val := Elt Ideal) sV.view _ (off := ![0, 0, 0]) (off' := ![0, 0, 0]) (size := S1x192x128.size) inb_S3x192x128_S1x192x128_0_0_0 _ _ _ rfl 0 (Or.inr (by show 0 + 1 ≤ 1; omega))).trans ?_
  exact scales_at c f0 d0 p l

theorem idx_plane (k : ℕ) (inb) (p : Fin 192) (l : Fin 128) (hk : k < 3) :
    (Rect.unit (s := S3x192x128) ![k, 0, 0] S1x192x128.size inb).toLoadRect.idx (ix3 0 p l) = ix3 (⟨k, hk⟩ : Fin 3) p l := by
  funext a; apply Fin.ext; fin_cases a <;> simp [LoadRect.idx, Rect.toLoadRect, Rect.unit]

/-- The three planes as the taps load them. -/
theorem plane0_at (p : Fin 192) (l : Fin 128) : v883 c f0 d0 (ix3 0 p l) = if p.val % 8 = 7 then 0 else sv (row c f0 p) :=
  (congrArg (sbuf c f0 d0) (idx_plane 0 inb_S3x192x128_S1x192x128_0_0_0 p l (by omega))).trans (sbuf_0 c f0 d0 p l)
theorem plane1_at (p : Fin 192) (l : Fin 128) : v921 c f0 d0 (ix3 0 p l) = sv (row c f0 p) :=
  (congrArg (sbuf c f0 d0) (idx_plane 1 inb_S3x192x128_S1x192x128_1_0_0 p l (by omega))).trans (sbuf_1 c f0 d0 p l)
theorem plane2_at (p : Fin 192) (l : Fin 128) : v956 c f0 d0 (ix3 0 p l) = if p.val % 8 = 0 then 0 else sv (row c f0 p) :=
  (congrArg (sbuf c f0 d0) (idx_plane 2 inb_S3x192x128_S1x192x128_2_0_0 p l (by omega))).trans (sbuf_2 c f0 d0 p l)

/-! The codes as the second result takes them: one group of eight rows per image column. -/

theorem slices8 (i : Fin 4) : S32x2560.Slices ![8 * i.val, 0] S8x2560 := by
  fin_cases i
  exacts [slices_S32x2560_o0_0_S8x2560, slices_S32x2560_o8_0_S8x2560, slices_S32x2560_o16_0_S8x2560, slices_S32x2560_o24_0_S8x2560]

/-- Eight rows of a block's codes. -/
noncomputable abbrev xcpay (X : FVec Ideal S32x2560 .bf16) (i : Fin 4) : FVec Ideal S1x8x2560 .fp8e4m3 :=
  shapeCast S1x8x2560 (extractStridedSlice S8x2560 ![8 * i.val, 0] (k0_pay5 (F := Ideal) X (k0_pay2 (F := Ideal) X)) (slices8 i)) shapeCasts_S8x2560_S1x8x2560

theorem xcpay_at (X : FVec Ideal S32x2560 .bf16) (i : Fin 4) (h : Fin 8) (l : Fin 2560) :
    xcpay X i (ix3 0 h l) = qv (fun l => X (ix2 (⟨8 * i.val + h.val, by omega⟩ : Fin 32) l)) l := by
  rw [← codes_pay]
  pointwise [k0_pay6]

theorem inb_groups (g : Fin 24) : ∀ a, (![g.val, 0, 0] : Fin 3 → ℕ) a + S1x8x2560.size a ≤ S24x8x2560.size a := by
  intro a; fin_cases a
  · show g.val + 1 ≤ 24; omega
  · show 0 + 8 ≤ 8; omega
  · show 0 + 2560 ≤ 2560; omega

noncomputable abbrev xcpiece (g : Fin 24) : View.Piece (Elt Ideal) S24x8x2560 EltTy.fp8e4m3 :=
  ⟨Rect.unit ![g.val, 0, 0] S1x8x2560.size (inb_groups g), xcpay (xblk c f0 d0 ⟨g.val / 4, by omega⟩) ⟨g.val % 4, by omega⟩⟩

theorem groups_list : D7_24 c f0 d0 = ([23, 22, 21, 20, 19, 18, 17, 16, 15, 14, 13, 12, 11, 10, 9, 8, 7, 6, 5, 4, 3, 2, 1, 0] : List (Fin 24)).map (xcpiece c f0 d0) := rfl

theorem fin24 (i : Fin 24) : i ∈ ([23, 22, 21, 20, 19, 18, 17, 16, 15, 14, 13, 12, 11, 10, 9, 8, 7, 6, 5, 4, 3, 2, 1, 0] : List (Fin 24)) := by revert i; decide

theorem xc_at (d7 : Bf (F := Ideal) c xcV) (g : Fin 24) (h : Fin 8) (l : Fin 2560) :
    dma111 c f0 d0 d7 (ix3 g h l) = qv (row c f0 ⟨8 * g.val + h.val, by omega⟩) l := by
  show xcV.view.read (Elt Ideal) (xcV.view.writes (Elt Ideal) d7 (D7_24 c f0 d0)) (ix3 g h l) = _
  rw [groups_list]
  refine View.read_writes_apply_of_pieces (Val := Elt Ideal) xcV.view _ (fun y : S24x8x2560.Idx => qv (row c f0 ⟨8 * (y 0).val + (y 1).val, by have := (y 0).isLt; have := (y 1).isLt; simp at *; omega⟩) (y 2)) _ ?_ (ix3 g h l) ?_
  · intro q hq x
    obtain ⟨i, -, rfl⟩ := List.mem_map.1 hq
    obtain ⟨r, k, rfl⟩ : ∃ (r : Fin 8) (k : Fin 2560), x = ix3 0 r k := ⟨x 1, x 2, by
      funext a; fin_cases a
      · exact Fin.ext (by have : (x 0).val < 1 := (x 0).isLt; show (x 0).val = 0; omega)
      · rfl
      · rfl⟩
    refine (xcpay_at _ _ r k).trans ?_
    rw [xload_row c f0 d0 _ _ _ (by show 32 * (i.val / 4) + (8 * (i.val % 4) + r.val) < 192; omega)]
    congr 2
    all_goals apply Fin.ext
    · show 32 * (i.val / 4) + (8 * (i.val % 4) + r.val) = 8 * (i.val + 1 * 0) + (0 + 1 * r.val); omega
    · show k.val = 0 + 1 * k.val; omega
  · refine ⟨_, List.mem_map_of_mem (fin24 g), ?_⟩
    rw [Rect.mem_set_unit]
    intro a; fin_cases a
    · show g.val ≤ g.val ∧ g.val < g.val + 1; omega
    · show 0 ≤ h.val ∧ h.val < 0 + 8; omega
    · show 0 ≤ l.val ∧ l.val < 0 + 2560; omega

/-! The scales as the third result takes them: one column of the image per lane. -/

theorem inb_cols (g : Fin 24) : ∀ a, (![1, 8 * g.val, 0] : Fin 3 → ℕ) a + S1x8x128.size a ≤ S3x192x128.size a := by
  intro a; fin_cases a
  · show 1 + 1 ≤ 3; omega
  · show 8 * g.val + 8 ≤ 192; omega
  · show 0 + 128 ≤ 128; omega

/-- The middle plane's eight rows of a group. -/
noncomputable def sload (g : Fin 24) : FVec Ideal S1x8x128 .f32 :=
  sV.view.readCov (D9_8 c f0 d0) (Rect.unit (s := S3x192x128) ![1, 8 * g.val, 0] S1x8x128.size (inb_cols g)).toLoadRect

theorem sload_at (g : Fin 24) (h : Fin 8) (l : Fin 128) : sload c f0 d0 g (ix3 0 h l) = sv (row c f0 ⟨8 * g.val + h.val, by omega⟩) := by
  suffices e : (Rect.unit (s := S3x192x128) ![1, 8 * g.val, 0] S1x8x128.size (inb_cols g)).toLoadRect.idx (ix3 0 h l) = ix3 (1 : Fin 3) (⟨8 * g.val + h.val, by omega⟩ : Fin 192) l by
    show sbuf c f0 d0 ((Rect.unit (s := S3x192x128) ![1, 8 * g.val, 0] S1x8x128.size (inb_cols g)).toLoadRect.idx (ix3 0 h l)) = _
    rw [e, sbuf_1]
  funext a; apply Fin.ext; fin_cases a <;> simp [LoadRect.idx, Rect.toLoadRect, Rect.unit]

/-- One step of the choice by lane. -/
noncomputable def pick (k : BitVec 32) (L : FVec Ideal S1x8x128 .f32) (A : FVec Ideal S8x128 .f32) : FVec Ideal S8x128 .f32 :=
  select (cmpi CmpIPredicate.eq v282 (broadcast S8x128 k)) (shapeCast S8x128 L shapeCasts_S1x8x128_S8x128) A

/-- An image's scales, gathered lane by lane. -/
noncomputable def xspay (L : Fin 12 → FVec Ideal S1x8x128 .f32) : FVec Ideal S1x8x12 .f32 :=
  shapeCast S1x8x12 (extractStridedSlice S8x12 ![0, 0]
    (pick 11#32 (L 11) (pick 10#32 (L 10) (pick 9#32 (L 9) (pick 8#32 (L 8) (pick 7#32 (L 7) (pick 6#32 (L 6) (pick 5#32 (L 5) (pick 4#32 (L 4)
      (pick 3#32 (L 3) (pick 2#32 (L 2) (pick 1#32 (L 1) (pick 0#32 (L 0) (broadcast S8x128 (Scalar.ofBits .f32 0x00000000#32))))))))))))))
    slices_S8x128_o0_0_S8x12) shapeCasts_S8x12_S1x8x12

theorem pick_at (k : ℕ) (hk : k < 12) (L : FVec Ideal S1x8x128 .f32) (A : FVec Ideal S8x128 .f32) (h : Fin 8) (w : Fin 128) :
    pick (BitVec.ofNat 32 k) L A (ix2 h w) = if w.val = k then L (ix3 0 h w) else A (ix2 h w) := by
  have hd : ∀ (k : Fin 12) (w : Fin 128), IntOp.cmpi CmpIPredicate.eq (BitVec.ofNat 32 w.val) (BitVec.ofNat 32 k.val) = if w.val = k.val then 1#1 else 0#1 := by decide +kernel
  have e : pick (BitVec.ofNat 32 k) L A (ix2 h w) = Scalar.select (IntOp.cmpi CmpIPredicate.eq (BitVec.ofNat 32 w.val) (BitVec.ofNat 32 k)) (L (ix3 0 h w)) (A (ix2 h w)) := by
    show Scalar.select (IntOp.cmpi CmpIPredicate.eq (iota Kind.tc S8x128 32 [1] _ (ix2 h w)) _) _ _ = _
    pointwise
  rw [e, hd ⟨k, hk⟩]
  split <;> rfl

theorem xspay_at (L : Fin 12 → FVec Ideal S1x8x128 .f32) (h : Fin 8) (w : Fin 12) :
    xspay L (ix3 0 h w) = L w (ix3 0 h (⟨w.val, by omega⟩ : Fin 128)) := by
  have e : ∀ A : FVec Ideal S8x128 .f32, shapeCast S1x8x12 (extractStridedSlice S8x12 ![0, 0] A slices_S8x128_o0_0_S8x12) shapeCasts_S8x12_S1x8x12 (ix3 0 h w) = A (ix2 h (⟨w.val, by omega⟩ : Fin 128)) := by
    intro A; pointwise
  unfold xspay
  refine (e _).trans ?_
  rw [pick_at 11 (by omega), pick_at 10 (by omega), pick_at 9 (by omega), pick_at 8 (by omega), pick_at 7 (by omega), pick_at 6 (by omega),
    pick_at 5 (by omega), pick_at 4 (by omega), pick_at 3 (by omega), pick_at 2 (by omega), pick_at 1 (by omega), pick_at 0 (by omega)]
  fin_cases w <;> rfl

theorem inb_imgs (b : Fin 2) : ∀ a, (![b.val, 0, 0] : Fin 3 → ℕ) a + S1x8x12.size a ≤ S2x8x12.size a := by
  intro a; fin_cases a
  · show b.val + 1 ≤ 2; omega
  · show 0 + 8 ≤ 8; omega
  · show 0 + 12 ≤ 12; omega

noncomputable abbrev xspiece (b : Fin 2) : View.Piece (Elt Ideal) S2x8x12 EltTy.f32 :=
  ⟨Rect.unit ![b.val, 0, 0] S1x8x12.size (inb_imgs b), xspay (fun w => sload c f0 d0 ⟨12 * b.val + w.val, by omega⟩)⟩

theorem imgs_list : D8_2 c f0 d0 = ([1, 0] : List (Fin 2)).map (xspiece c f0 d0) := rfl

theorem xs_at (d8 : Bf (F := Ideal) c xsV) (b : Fin 2) (h : Fin 8) (w : Fin 12) :
    dma111_1 c f0 d0 d8 (ix3 b h w) = sv (row c f0 (pix b w h)) := by
  show xsV.view.read (Elt Ideal) (xsV.view.writes (Elt Ideal) d8 (D8_2 c f0 d0)) (ix3 b h w) = _
  rw [imgs_list]
  refine View.read_writes_apply_of_pieces (Val := Elt Ideal) xsV.view _ (fun y : S2x8x12.Idx => sv (row c f0 (pix (y 0) (y 2) (y 1)))) _ ?_ (ix3 b h w) ?_
  · intro q hq x
    obtain ⟨i, -, rfl⟩ := List.mem_map.1 hq
    obtain ⟨r, k, rfl⟩ : ∃ (r : Fin 8) (k : Fin 12), x = ix3 0 r k := ⟨x 1, x 2, by
      funext a; fin_cases a
      · exact Fin.ext (by have : (x 0).val < 1 := (x 0).isLt; show (x 0).val = 0; omega)
      · rfl
      · rfl⟩
    have e := (xspay_at (fun w => sload c f0 d0 ⟨12 * i.val + w.val, by omega⟩) r k).trans (sload_at c f0 d0 _ r _)
    refine e.trans ?_
    congr 2
    apply Fin.ext
    show 8 * (12 * i.val + k.val) + r.val = ((i.val + 1 * 0) * 12 + (0 + 1 * k.val)) * 8 + (0 + 1 * r.val); omega
  · refine ⟨_, List.mem_map_of_mem (show b ∈ ([1, 0] : List (Fin 2)) by revert b; decide), ?_⟩
    rw [Rect.mem_set_unit]
    intro a; fin_cases a
    · show b.val ≤ b.val ∧ b.val < b.val + 1; omega
    · show 0 ≤ h.val ∧ h.val < 0 + 8; omega
    · show 0 ≤ w.val ∧ w.val < 0 + 12; omega

end

end Cert.KernelIdeal.Hand
-- ==== Proof.Weights.lean ====
/-
  The convolution's weights as the kernel stages them: forty-five slabs, one for each of five tiles of output channels and nine taps,
  the centre tap first. A slab read back is the slab that was transferred (`wload_at`), and the product a tile takes with it is
  `prod`, read at a pixel and an output channel by `prod_at`.
-/
module

import all proofs.«01_k».proof.Proof.BodyIdeal
public import proofs.«01_k».proof.Proof.BodyIdeal
public import Idealize.ShloMosaic.Lib.Pointwise
public import Idealize.ShloMosaic.Lib.WritesUnit

@[expose] public section

set_option maxRecDepth 16384

noncomputable section

namespace Cert.KernelIdeal.Hand

open Cert.KernelIdeal Cert.KernelIdeal.Gen
open Idealize.ShloMosaic Idealize.ShloMosaic.TcCoe Idealize.SL.Sem
open kernelRun.sl

/-- The codes' product with a slab of weights, each row times its pixel's scale. -/
noncomputable abbrev prod (Q : FVec Ideal S192x2560 .fp8e4m3) (W : FVec Ideal S1x2560x256 .fp8e4m3) (S : FVec Ideal S1x192x128 .f32) : FVec Ideal S192x256 .f32 :=
  mulf (matmul dot_S192x2560_S2560x256_S192x256_1_0_0_1_n_n none Q (shapeCast S2560x256 W shapeCasts_S1x2560x256_S2560x256) (constant S192x256 .f32 0x00000000#32))
    (concatenate S192x256 1 [⟨S192x128, shapeCast S192x128 S shapeCasts_S1x192x128_S192x128⟩, ⟨S192x128, shapeCast S192x128 S shapeCasts_S1x192x128_S192x128⟩]
      concatenates_S192x128_S192x128_S192x256_d1)

theorem prod_at (Q : FVec Ideal S192x2560 .fp8e4m3) (W : FVec Ideal S1x2560x256 .fp8e4m3) (S : FVec Ideal S1x192x128 .f32) (s : Fin 192 → EReal)
    (hS : ∀ p l, S (ix3 0 p l) = s p) (p : Fin 192) (l : Fin 256) :
    prod Q W S (ix2 p l) = (∑ k : Fin 2560, Q (ix2 p k) * W (ix3 0 k l)) * s p := by
  pointwise
  simp only [hS, ite_self, dite_eq_ite]

/-- A slab's place among the staged weights. -/
theorem inb_slab (j : ℕ) (hj : j < 45) : ∀ a, (![j, 0, 0] : Fin 3 → ℕ) a + S1x2560x256.size a ≤ S45x2560x256.size a := by
  intro a; fin_cases a
  · show j + 1 ≤ 45; omega
  · show 0 + 2560 ≤ 2560; omega
  · show 0 + 256 ≤ 256; omega

theorem cast_slab {α : Type} (f : S1x2560x256.Idx → α) (k : Fin 2560) (l : Fin 256) :
    shapeCast S2560x256 f shapeCasts_S1x2560x256_S2560x256 (ix2 k l) = f (ix3 0 k l) := by
  pointwise

theorem squeeze_slab (k : Fin 2560) (l : Fin 256) :
    Shape.reshapeEquiv squeezes_S1x2560x256_S2560x256.numel_eq (ix2 k l : S2560x256.Idx) = (ix3 0 k l : S1x2560x256.Idx) :=
  cast_slab id k l

section
variable (M : Memref sig .tc .vmem S45x2560x256 .fp8e4m3)

/-- One slab of the staged weights. -/
noncomputable abbrev slab (j : ℕ) (hj : j < 45) : Memref sig .tc .vmem S2560x256 .fp8e4m3 :=
  (M.slice (Rect.unit (s := S45x2560x256) ![j, 0, 0] S1x2560x256.size (inb_slab j hj)) (fun _ => rfl)).squeeze S2560x256 squeezes_S1x2560x256_S2560x256

theorem slab_emb (j : ℕ) (hj : j < 45) (k : Fin 2560) (l : Fin 256) : (slab M j hj).view.emb (ix2 k l) = M.view.emb (ix3 ⟨j, hj⟩ k l) := by
  show M.view.emb ((Rect.unit (s := S45x2560x256) ![j, 0, 0] S1x2560x256.size (inb_slab j hj)).emb (Shape.reshapeEquiv _ (ix2 k l : S2560x256.Idx))) = _
  rw [squeeze_slab]
  congr 1
  funext a; apply Fin.ext; fin_cases a <;> simp [Rect.unit, Rect.emb]

theorem slab_same (j : ℕ) (hj : j < 45) (f : M.view.ty.Contents (Elt Ideal)) (P : S2560x256.Idx → EReal) (k : Fin 2560) (l : Fin 256) :
    M.view.read (Elt Ideal) ((slab M j hj).view.write (Elt Ideal) f P Finset.univ) (ix3 ⟨j, hj⟩ k l) = P (ix2 k l) := by
  rw [View.read_apply, ← slab_emb, View.write_emb_of_mem _ _ (Finset.mem_univ _), cast_cast, cast_eq]

theorem slab_other (j : ℕ) (hj : j < 45) (f : M.view.ty.Contents (Elt Ideal)) (P : S2560x256.Idx → EReal) (i : Fin 45) (hi : i.val ≠ j) (k : Fin 2560) (l : Fin 256) :
    M.view.read (Elt Ideal) ((slab M j hj).view.write (Elt Ideal) f P Finset.univ) (ix3 i k l) = M.view.read (Elt Ideal) f (ix3 i k l) := by
  rw [View.read_apply, View.read_apply, View.write_of_not_mem]
  intro hm
  obtain ⟨x, -, hx⟩ := Finset.mem_map.1 hm
  obtain ⟨k', l', rfl⟩ : ∃ (k' : Fin 2560) (l' : Fin 256), x = ix2 k' l' := ⟨x 0, x 1, by funext a; fin_cases a <;> rfl⟩
  rw [slab_emb] at hx
  have := congrFun (M.view.emb.injective hx) 0
  exact hi (congrArg Fin.val this).symm

/-- The staged weights after the first `n` transfers. -/
noncomputable def filled (f : M.view.ty.Contents (Elt Ideal)) (P : ℕ → S2560x256.Idx → EReal) : (n : ℕ) → n ≤ 45 → M.view.ty.Contents (Elt Ideal)
  | 0, _ => f
  | n + 1, h => (slab M n h).view.write (Elt Ideal) (filled f P n (Nat.le_of_succ_le h)) (P n) Finset.univ

theorem filled_at (f : M.view.ty.Contents (Elt Ideal)) (P : ℕ → S2560x256.Idx → EReal) (i : Fin 45) (k : Fin 2560) (l : Fin 256) (n : ℕ) (h : n ≤ 45) (hi : i.val < n) :
    M.view.read (Elt Ideal) (filled M f P n h) (ix3 i k l) = P i.val (ix2 k l) := by
  induction n with
  | zero => omega
  | succ n ih =>
    by_cases e : i.val = n
    · obtain ⟨i, hi'⟩ := i
      obtain rfl : i = n := e
      exact slab_same M i h _ _ k l
    · exact (slab_other M n h _ _ i e k l).trans (ih (Nat.le_of_succ_le h) (by omega))

end

/-- The taps in the order the kernel takes them. -/
def tapAt (k : ℕ) : Fin 9 := (![4, 0, 1, 2, 3, 5, 6, 7, 8] : Fin 9 → Fin 9) ⟨k % 9, Nat.mod_lt _ (by omega)⟩

theorem inb_tap (t : Fin 9) (n : ℕ) (hn : n < 5) : ∀ a, (![t.val, 0, 256 * n] : Fin 3 → ℕ) a + S1x2560x256.size a ≤ S9x2560x1280.size a := by
  intro a; fin_cases a
  · show t.val + 1 ≤ 9; omega
  · show 0 + 2560 ≤ 2560; omega
  · show 256 * n + 256 ≤ 1280; omega

section
variable (c : Dev nD) (f1 : Bf (F := Ideal) c wH) (d1 : Bf (F := Ideal) c wV)

/-- A tap's weights for a tile of output channels, as transferred. -/
noncomputable def sent (t : Fin 9) (n : ℕ) (hn : n < 5) : S2560x256.Idx → EReal :=
  ReadAs.same.apply (View.read (Elt Ideal) ((wH.slice (Rect.unit (s := S9x2560x1280) ![t.val, 0, 256 * n] S1x2560x256.size (inb_tap t n hn)) (fun _ => rfl)).squeeze S2560x256 squeezes_S1x2560x256_S2560x256).view f1)

/-- The weights, as the second operand holds them. -/
noncomputable def wt (t : Fin 9) (k : Fin 2560) (n : Fin 1280) : EReal := (show S9x2560x1280.Idx → EReal from f1) (ix3 t k n)

theorem sent_at (t : Fin 9) (n : ℕ) (hn : n < 5) (k : Fin 2560) (l : Fin 256) : sent c f1 t n hn (ix2 k l) = wt c f1 t k ⟨256 * n + l.val, by omega⟩ := by
  have e : (Rect.unit (s := S9x2560x1280) ![t.val, 0, 256 * n] S1x2560x256.size (inb_tap t n hn)).toLoadRect.idx (ix3 0 k l) = ix3 t k (⟨256 * n + l.val, by omega⟩ : Fin 1280) := by
    funext a; apply Fin.ext; fin_cases a <;> simp [LoadRect.idx, Rect.toLoadRect, Rect.unit]
  have h := cast_slab (wH.view.readAt (Elt Ideal) (Rect.unit (s := S9x2560x1280) ![t.val, 0, 256 * n] S1x2560x256.size (inb_tap t n hn)).toLoadRect f1) k l
  refine Eq.trans (b := shapeCast S2560x256 (wH.view.readAt (Elt Ideal) (Rect.unit (s := S9x2560x1280) ![t.val, 0, 256 * n] S1x2560x256.size (inb_tap t n hn)).toLoadRect f1) shapeCasts_S1x2560x256_S2560x256 (ix2 k l)) rfl (h.trans ?_)
  exact congrArg (show S9x2560x1280.Idx → EReal from f1) e

/-- A slab of the staged weights, loaded after every transfer has landed. -/
noncomputable abbrev wload (j : ℕ) (hj : j < 45) : FVec Ideal S1x2560x256 .fp8e4m3 :=
  wV.view.readAt (Elt Ideal) (Rect.unit (s := S45x2560x256) ![j, 0, 0] S1x2560x256.size (inb_slab j hj)).toLoadRect
    (filled wV d1 (fun k => sent c f1 (tapAt k) (k / 9 % 5) (Nat.mod_lt _ (by omega))) 45 (Nat.le_refl _))

theorem wload_at (j : ℕ) (hj : j < 45) (k : Fin 2560) (l : Fin 256) :
    wload c f1 d1 j hj (ix3 0 k l) = wt c f1 (tapAt j) k ⟨256 * (j / 9 % 5) + l.val, by omega⟩ := by
  show wV.view.read (Elt Ideal) _ ((Rect.unit (s := S45x2560x256) ![j, 0, 0] S1x2560x256.size (inb_slab j hj)).toLoadRect.idx (ix3 0 k l)) = _
  have e : (Rect.unit (s := S45x2560x256) ![j, 0, 0] S1x2560x256.size (inb_slab j hj)).toLoadRect.idx (ix3 0 k l) = ix3 (⟨j, hj⟩ : Fin 45) k l := by
    funext a; apply Fin.ext; fin_cases a <;> simp [LoadRect.idx, Rect.toLoadRect, Rect.unit]
  rw [e, filled_at wV _ _ ⟨j, hj⟩ k l 45 (Nat.le_refl _) hj]
  exact sent_at c f1 _ _ _ k l

end

section
variable (c : Dev nD) (f1 : Bf (F := Ideal) c wH) (d1 : Bf (F := Ideal) c wV)
theorem v1016_eq : v1016 (F := Ideal) c f1 d1 = wload c f1 d1 0 (by omega) := rfl
theorem v1238_eq : v1238 (F := Ideal) c f1 d1 = wload c f1 d1 9 (by omega) := rfl
end

end Cert.KernelIdeal.Hand

end
-- ==== Proof.Tap.lean ====
/-
  The accumulation of the nine taps in a scratch of 256 lanes, apart from where its operands come from. A tap's product, one row
  per pixel, is rolled by one image row or not (`sh0`, `shm`, `shp`) and added at one image column to the left or right or not
  (`pL`, `pC`, `pR`); `shv` is the sum's value at a pixel: the product's row for the neighbour, zero outside the image's width.
-/
module

public import proofs.«01_k».proof.Proof.Shift
public import proofs.«01_k».proof.Proof.Gen.KernelIdeal.Skeleton
public import Idealize.ShloMosaic.Lib.Pointwise
public import Idealize.ShloMosaic.Lib.WritesUnit
public import Idealize.ShloMosaic.Lib.Pipeline.FrameSuffixV

@[expose] public section

set_option maxRecDepth 16384

noncomputable section

namespace Cert.KernelIdeal.Hand.Wide

open Cert.KernelIdeal Cert.KernelIdeal.Gen
open Idealize.ShloMosaic Idealize.ShloMosaic.TcCoe Idealize.SL.Sem
open Cert.Shift

/-- A tap's products, one image row after the other, not rolled. -/
abbrev sh0 (X : FVec Ideal S192x256 .f32) : FVec Ideal S2x12x8x256 .f32 :=
  shapeCast S2x12x8x256 (shapeCast S24x8x256 X shapeCasts_S192x256_S24x8x256) shapeCasts_S24x8x256_S2x12x8x256
/-- Rolled one image row down. -/
abbrev shm (X : FVec Ideal S192x256 .f32) : FVec Ideal S2x12x8x256 .f32 :=
  shapeCast S2x12x8x256 (dynamicRotate 1 1#32 none (shapeCast S24x8x256 X shapeCasts_S192x256_S24x8x256) rotates_S24x8x256_d1) shapeCasts_S24x8x256_S2x12x8x256
/-- Rolled one image row up. -/
abbrev shp (X : FVec Ideal S192x256 .f32) : FVec Ideal S2x12x8x256 .f32 :=
  shapeCast S2x12x8x256 (dynamicRotate 1 7#32 none (shapeCast S24x8x256 X shapeCasts_S192x256_S24x8x256) rotates_S24x8x256_d1) shapeCasts_S24x8x256_S2x12x8x256

theorem sh0_at (X : FVec Ideal S192x256 .f32) (b : Fin 2) (w : Fin 12) (h : Fin 8) (l : Fin 256) :
    sh0 X (ix4 b w h l) = X (ix2 (pix b w (rowOf 1 h)) l) := by
  pointwise
  all_goals (congr 2; try (apply Fin.ext; simp [pix, rowOf]; try omega))
theorem shm_at (X : FVec Ideal S192x256 .f32) (b : Fin 2) (w : Fin 12) (h : Fin 8) (l : Fin 256) :
    shm X (ix4 b w h l) = X (ix2 (pix b w (rowOf 0 h)) l) := by
  pointwise
  all_goals (congr 2; try (apply Fin.ext; simp [pix, rowOf]; try omega))
theorem shp_at (X : FVec Ideal S192x256 .f32) (b : Fin 2) (w : Fin 12) (h : Fin 8) (l : Fin 256) :
    shp X (ix4 b w h l) = X (ix2 (pix b w (rowOf 2 h)) l) := by
  pointwise
  all_goals (congr 2; try (apply Fin.ext; simp [pix, rowOf]; try omega))

variable {sp : Space} (v : View sig .tc sp S2x12x8x256 .f32)

abbrev PL := List (View.Piece (Elt Ideal) S2x12x8x256 EltTy.f32)
abbrev RL : Rect S2x12x8x256 := Rect.unit ![0, 1, 0, 0] S2x11x8x256.size inb_S2x12x8x256_S2x11x8x256_0_1_0_0
abbrev RC : Rect S2x12x8x256 := Rect.unit ![0, 0, 0, 0] S2x12x8x256.size inb_S2x12x8x256_S2x12x8x256_0_0_0_0
abbrev RR : Rect S2x12x8x256 := Rect.unit ![0, 0, 0, 0] S2x11x8x256.size inb_S2x12x8x256_S2x11x8x256_0_0_0_0

/-- The scratch overwritten by a tap. -/
abbrev pS (L : PL) (X : FVec Ideal S2x12x8x256 .f32) : PL :=
  ⟨RC, shapeCast S2x12x8x256 X shapeCasts_S2x12x8x256_S2x12x8x256⟩ :: L
/-- A tap added from the column to the left. -/
abbrev pL (L : PL) (X : FVec Ideal S2x12x8x256 .f32) : PL :=
  ⟨RL, shapeCast S2x11x8x256 (addf (v.readCov L RL.toLoadRect) (extractStridedSlice S2x11x8x256 ![0, 0, 0, 0] X slices_S2x12x8x256_o0_0_0_0_S2x11x8x256))
    shapeCasts_S2x11x8x256_S2x11x8x256⟩ :: L
/-- A tap added from its own column. -/
abbrev pC (L : PL) (X : FVec Ideal S2x12x8x256 .f32) : PL :=
  ⟨RC, shapeCast S2x12x8x256 (addf (v.readCov L RC.toLoadRect) X) shapeCasts_S2x12x8x256_S2x12x8x256⟩ :: L
/-- A tap added from the column to the right. -/
abbrev pR (L : PL) (X : FVec Ideal S2x12x8x256 .f32) : PL :=
  ⟨RR, shapeCast S2x11x8x256 (addf (v.readCov L RR.toLoadRect) (extractStridedSlice S2x11x8x256 ![0, 1, 0, 0] X slices_S2x12x8x256_o0_1_0_0_S2x11x8x256))
    shapeCasts_S2x11x8x256_S2x11x8x256⟩ :: L

/-- The scratch after the stores `L`, at a pixel and lane. -/
def acc (L : PL) (b : Fin 2) (w : Fin 12) (h : Fin 8) (l : Fin 256) : EReal :=
  v.read (Elt Ideal) (v.writes (Elt Ideal) v.junk L) (ix4 b w h l)

theorem idxC (b : Fin 2) (w : Fin 12) (h : Fin 8) (l : Fin 256) : RC.toLoadRect.idx (ix4 b w h l) = ix4 b w h l := by
  funext a; apply Fin.ext; fin_cases a <;> simp [LoadRect.idx, Rect.toLoadRect, Rect.unit]
theorem idxL (b : Fin 2) (w : Fin 11) (h : Fin 8) (l : Fin 256) : RL.toLoadRect.idx (ix4 b w h l) = ix4 b ⟨w.val + 1, by omega⟩ h l := by
  funext a; apply Fin.ext; fin_cases a <;> simp [LoadRect.idx, Rect.toLoadRect, Rect.unit]; omega
theorem idxR (b : Fin 2) (w : Fin 11) (h : Fin 8) (l : Fin 256) : RR.toLoadRect.idx (ix4 b w h l) = ix4 b ⟨w.val, by omega⟩ h l := by
  funext a; apply Fin.ext; fin_cases a <;> simp [LoadRect.idx, Rect.toLoadRect, Rect.unit]

theorem covC (L : PL) (b : Fin 2) (w : Fin 12) (h : Fin 8) (l : Fin 256) : v.readCov L RC.toLoadRect (ix4 b w h l) = acc v L b w h l := by
  show v.read _ _ (RC.toLoadRect.idx _) = _
  rw [idxC]; rfl
theorem covL (L : PL) (b : Fin 2) (w : Fin 11) (h : Fin 8) (l : Fin 256) : v.readCov L RL.toLoadRect (ix4 b w h l) = acc v L b ⟨w.val + 1, by omega⟩ h l := by
  show v.read _ _ (RL.toLoadRect.idx _) = _
  rw [idxL]; rfl
theorem covR (L : PL) (b : Fin 2) (w : Fin 11) (h : Fin 8) (l : Fin 256) : v.readCov L RR.toLoadRect (ix4 b w h l) = acc v L b ⟨w.val, by omega⟩ h l := by
  show v.read _ _ (RR.toLoadRect.idx _) = _
  rw [idxR]; rfl

theorem acc_pS (L : PL) (X : FVec Ideal S2x12x8x256 .f32) (b : Fin 2) (w : Fin 12) (h : Fin 8) (l : Fin 256) :
    acc v (pS L X) b w h l = X (ix4 b w h l) := by
  unfold acc
  refine (View.read_writes_cons_unit_of_mem v v.junk (off := ![0, 0, 0, 0]) (off' := ![0, 0, 0, 0]) (size := S2x12x8x256.size) inb_S2x12x8x256_S2x12x8x256_0_0_0_0 _ L _ (ix4 b w h l) rfl ?_).trans ?_
  · intro a; fin_cases a <;> simp <;> try omega
  pointwise

theorem acc_pC (L : PL) (X : FVec Ideal S2x12x8x256 .f32) (b : Fin 2) (w : Fin 12) (h : Fin 8) (l : Fin 256) :
    acc v (pC v L X) b w h l = acc v L b w h l + X (ix4 b w h l) := by
  conv_lhs => unfold acc
  refine (View.read_writes_cons_unit_of_mem v v.junk (off := ![0, 0, 0, 0]) (off' := ![0, 0, 0, 0]) (size := S2x12x8x256.size) inb_S2x12x8x256_S2x12x8x256_0_0_0_0 _ L _ (ix4 b w h l) rfl ?_).trans ?_
  · intro a; fin_cases a <;> simp <;> try omega
  generalize hY : v.readCov L RC.toLoadRect = Y
  pointwise
  rw [← hY, covC]

theorem acc_pL (L : PL) (X : FVec Ideal S2x12x8x256 .f32) (b : Fin 2) (w : Fin 12) (h : Fin 8) (l : Fin 256) :
    acc v (pL v L X) b w h l = acc v L b w h l + (if hw : 1 ≤ w.val then X (ix4 b ⟨w.val - 1, by omega⟩ h l) else 0) := by
  by_cases hw : 1 ≤ w.val
  · rw [dif_pos hw]
    conv_lhs => unfold acc
    refine (View.read_writes_cons_unit_of_mem v v.junk (off := ![0, 1, 0, 0]) (off' := ![0, 1, 0, 0]) (size := S2x11x8x256.size) inb_S2x12x8x256_S2x11x8x256_0_1_0_0 _ L _ (ix4 b (⟨w.val - 1, by omega⟩ : Fin 11) h l) rfl ?_).trans ?_
    · intro a; fin_cases a <;> simp <;> try omega
    generalize hY : v.readCov L RL.toLoadRect = Y
    pointwise
    rw [← hY, covL]
    congr 2; apply Fin.ext; simp; omega
  · rw [dif_neg hw, add_zero]
    unfold acc
    refine View.read_writes_cons_unit_of_not_mem v v.junk (off := ![0, 1, 0, 0]) (off' := ![0, 1, 0, 0]) (size := S2x11x8x256.size) inb_S2x12x8x256_S2x11x8x256_0_1_0_0 _ L _ rfl 1 ?_
    left; show w.val < 1; omega

theorem acc_pR (L : PL) (X : FVec Ideal S2x12x8x256 .f32) (b : Fin 2) (w : Fin 12) (h : Fin 8) (l : Fin 256) :
    acc v (pR v L X) b w h l = acc v L b w h l + (if hw : w.val < 11 then X (ix4 b ⟨w.val + 1, by omega⟩ h l) else 0) := by
  by_cases hw : w.val < 11
  · rw [dif_pos hw]
    conv_lhs => unfold acc
    refine (View.read_writes_cons_unit_of_mem v v.junk (off := ![0, 0, 0, 0]) (off' := ![0, 0, 0, 0]) (size := S2x11x8x256.size) inb_S2x12x8x256_S2x11x8x256_0_0_0_0 _ L _ (ix4 b (⟨w.val, hw⟩ : Fin 11) h l) rfl ?_).trans ?_
    · intro a; fin_cases a <;> simp <;> try omega
    generalize hY : v.readCov L RR.toLoadRect = Y
    pointwise
    rw [← hY, covR]
    simp only [Nat.add_comm 1 w.val]
  · rw [dif_neg hw, add_zero]
    unfold acc
    refine View.read_writes_cons_unit_of_not_mem v v.junk (off := ![0, 0, 0, 0]) (off' := ![0, 0, 0, 0]) (size := S2x11x8x256.size) inb_S2x12x8x256_S2x11x8x256_0_0_0_0 _ L _ rfl 1 ?_
    right; show 0 + 11 ≤ w.val; omega

/-- A column of products, as a function of the pixel. -/
abbrev col (X : FVec Ideal S192x256 .f32) (l : Fin 256) : Fin 192 → EReal := fun p => X (ix2 p l)

theorem at_C {kh : Fin 3} {Y : FVec Ideal S2x12x8x256 .f32} {X : FVec Ideal S192x256 .f32}
    (hY : ∀ b w h l, Y (ix4 b w h l) = X (ix2 (pix b w (rowOf kh h)) l)) (b : Fin 2) (w : Fin 12) (h : Fin 8) (l : Fin 256) :
    Y (ix4 b w h l) = shv kh 1 (col X l) b w h := by
  unfold shv
  rw [dif_pos ⟨by show 1 ≤ w.val + 1; omega, by show w.val + 1 ≤ 12; omega⟩, hY]; rfl
theorem at_L {kh : Fin 3} {Y : FVec Ideal S2x12x8x256 .f32} {X : FVec Ideal S192x256 .f32}
    (hY : ∀ b w h l, Y (ix4 b w h l) = X (ix2 (pix b w (rowOf kh h)) l)) (b : Fin 2) (w : Fin 12) (h : Fin 8) (l : Fin 256) :
    (if hw : 1 ≤ w.val then Y (ix4 b ⟨w.val - 1, by omega⟩ h l) else 0) = shv kh 0 (col X l) b w h := by
  unfold shv
  by_cases hw : 1 ≤ w.val
  · rw [dif_pos hw, dif_pos ⟨by show 1 ≤ w.val + 0; omega, by show w.val + 0 ≤ 12; omega⟩, hY]; rfl
  · rw [dif_neg hw, dif_neg (by show ¬(1 ≤ w.val + 0 ∧ w.val + 0 ≤ 12); omega)]
theorem at_R {kh : Fin 3} {Y : FVec Ideal S2x12x8x256 .f32} {X : FVec Ideal S192x256 .f32}
    (hY : ∀ b w h l, Y (ix4 b w h l) = X (ix2 (pix b w (rowOf kh h)) l)) (b : Fin 2) (w : Fin 12) (h : Fin 8) (l : Fin 256) :
    (if hw : w.val < 11 then Y (ix4 b ⟨w.val + 1, by omega⟩ h l) else 0) = shv kh 2 (col X l) b w h := by
  unfold shv
  by_cases hw : w.val < 11
  · rw [dif_pos hw, dif_pos ⟨by show 1 ≤ w.val + 2; omega, by show w.val + 2 ≤ 12; omega⟩, hY]; rfl
  · rw [dif_neg hw, dif_neg (by show ¬(1 ≤ w.val + 2 ∧ w.val + 2 ≤ 12); omega)]

/-- The nine taps of a tile in program order, read at a pixel and lane. -/
theorem tile_acc {L0 L1 L2 L3 L4 L5 L6 L7 L8 L9 : PL} {X0 X1 X2 X3 X4 X5 X6 X7 X8 : FVec Ideal S192x256 .f32}
    (e1 : L1 = pS L0 (sh0 X4)) (e2 : L2 = pL v L1 (shm X0)) (e3 : L3 = pC v L2 (shm X1)) (e4 : L4 = pR v L3 (shm X2))
    (e5 : L5 = pL v L4 (sh0 X3)) (e6 : L6 = pR v L5 (sh0 X5)) (e7 : L7 = pL v L6 (shp X6)) (e8 : L8 = pC v L7 (shp X7))
    (e9 : L9 = pR v L8 (shp X8)) (b : Fin 2) (w : Fin 12) (h : Fin 8) (l : Fin 256) :
    acc v L9 b w h l = shv 1 1 (col X4 l) b w h + shv 0 0 (col X0 l) b w h + shv 0 1 (col X1 l) b w h + shv 0 2 (col X2 l) b w h
      + shv 1 0 (col X3 l) b w h + shv 1 2 (col X5 l) b w h + shv 2 0 (col X6 l) b w h + shv 2 1 (col X7 l) b w h
      + shv 2 2 (col X8 l) b w h := by
  rw [e9, acc_pR, at_R (shp_at X8), e8, acc_pC, at_C (shp_at X7), e7, acc_pL, at_L (shp_at X6), e6, acc_pR, at_R (sh0_at X5),
    e5, acc_pL, at_L (sh0_at X3), e4, acc_pR, at_R (shm_at X2), e3, acc_pC, at_C (shm_at X1), e2, acc_pL, at_L (shm_at X0),
    e1, acc_pS, at_C (sh0_at X4)]

end Cert.KernelIdeal.Hand.Wide
-- ==== Proof.Tiles.lean ====
/-
  The convolution's five tiles: the scratch each leaves is `conv`, nine taps of the codes' products with the weights, each scaled by
  its pixel's scale (zero for a row outside the image) and read at its neighbour (zero past the left and right border).
-/
module

import all proofs.«01_k».proof.Proof.BodyIdeal
public import proofs.«01_k».proof.Proof.BodyIdeal
public import proofs.«01_k».proof.Proof.Loads
public import proofs.«01_k».proof.Proof.Weights
public import proofs.«01_k».proof.Proof.Tap

@[expose] public section

set_option maxRecDepth 16384

noncomputable section

namespace Cert.KernelIdeal.Hand

open Cert.KernelIdeal Cert.KernelIdeal.Gen
open Idealize.ShloMosaic Idealize.ShloMosaic.TcCoe Idealize.SL.Sem
open Cert.Shift kernelRun.sl

section
variable (c : Dev nD) (f0 : Bf (F := Ideal) c xH) (f1 : Bf (F := Ideal) c wH) (d0 : Bf (F := Ideal) c xV) (d1 : Bf (F := Ideal) c wV)

/-- A pixel's scale, for the taps of kernel row `kh`: zero where the neighbouring row is outside the image. -/
noncomputable def plane (kh : Fin 3) (p : Fin 192) : EReal :=
  if kh = 0 ∧ p.val % 8 = 7 then 0 else if kh = 2 ∧ p.val % 8 = 0 then 0 else sv (row c f0 p)

theorem plane0 (p : Fin 192) (l : Fin 128) : v883 c f0 d0 (ix3 0 p l) = plane c f0 0 p := by
  rw [plane0_at]; simp [plane]
theorem plane1 (p : Fin 192) (l : Fin 128) : v921 c f0 d0 (ix3 0 p l) = plane c f0 1 p := by
  rw [plane1_at]; simp [plane]
theorem plane2 (p : Fin 192) (l : Fin 128) : v956 c f0 d0 (ix3 0 p l) = plane c f0 2 p := by
  rw [plane2_at]; simp [plane]

/-- One tap at a pixel and an output channel. -/
noncomputable def tapSum (t : Fin 9) (kh kw : Fin 3) (b : Fin 2) (w : Fin 12) (h : Fin 8) (n : Fin 1280) : EReal :=
  shv kh kw (fun p => (∑ k : Fin 2560, qv (row c f0 p) k * wt c f1 t k n) * plane c f0 kh p) b w h

/-- The nine taps, in the kernel's order. -/
noncomputable def conv (b : Fin 2) (w : Fin 12) (h : Fin 8) (n : Fin 1280) : EReal :=
  tapSum c f0 f1 4 1 1 b w h n + tapSum c f0 f1 0 0 0 b w h n + tapSum c f0 f1 1 0 1 b w h n + tapSum c f0 f1 2 0 2 b w h n + tapSum c f0 f1 3 1 0 b w h n + tapSum c f0 f1 5 1 2 b w h n + tapSum c f0 f1 6 2 0 b w h n + tapSum c f0 f1 7 2 1 b w h n + tapSum c f0 f1 8 2 2 b w h n

theorem prod_tap (j : ℕ) (hj : j < 45) (S : FVec Ideal S1x192x128 .f32) (kh : Fin 3) (hS : ∀ p l, S (ix3 0 p l) = plane c f0 kh p) (l : Fin 256)
    (t : Fin 9) (ht : tapAt j = t) (n : Fin 1280) (hn : n.val = 256 * (j / 9 % 5) + l.val) :
    Wide.col (prod (v866 c f0 d0) (wload c f1 d1 j hj) S) l = fun p => (∑ k : Fin 2560, qv (row c f0 p) k * wt c f1 t k n) * plane c f0 kh p := by
  funext p
  refine (prod_at (v866 c f0 d0) (wload c f1 d1 j hj) S (plane c f0 kh) hS p l).trans ?_
  refine congrArg (· * plane c f0 kh p) ?_
  refine Finset.sum_congr rfl fun k _ => ?_
  refine Ideal.mul_congr (codes_at c f0 d0 p k) ((wload_at c f1 d1 j hj k l).trans ?_)
  subst ht
  exact congrArg (wt c f1 (tapAt j) k) (Fin.ext hn.symm)

theorem tapAt_add (n i : ℕ) (hi : i < 9) : tapAt (9 * n + i) = tapAt i := by
  unfold tapAt; congr 1; apply Fin.ext; show (9 * n + i) % 9 = i % 9; omega

/-- A tile's scratch, from its nine stores. -/
theorem tile_conv (n : ℕ) (hn : n < 5) {L0 L1 L2 L3 L4 L5 L6 L7 L8 L9 : Wide.PL}
    (e1 : L1 = Wide.pS L0 (Wide.sh0 (prod (v866 c f0 d0) (wload c f1 d1 (9 * n) (by omega)) (v921 c f0 d0))))
    (e2 : L2 = Wide.pL accV.view L1 (Wide.shm (prod (v866 c f0 d0) (wload c f1 d1 (9 * n + 1) (by omega)) (v883 c f0 d0))))
    (e3 : L3 = Wide.pC accV.view L2 (Wide.shm (prod (v866 c f0 d0) (wload c f1 d1 (9 * n + 2) (by omega)) (v883 c f0 d0))))
    (e4 : L4 = Wide.pR accV.view L3 (Wide.shm (prod (v866 c f0 d0) (wload c f1 d1 (9 * n + 3) (by omega)) (v883 c f0 d0))))
    (e5 : L5 = Wide.pL accV.view L4 (Wide.sh0 (prod (v866 c f0 d0) (wload c f1 d1 (9 * n + 4) (by omega)) (v921 c f0 d0))))
    (e6 : L6 = Wide.pR accV.view L5 (Wide.sh0 (prod (v866 c f0 d0) (wload c f1 d1 (9 * n + 5) (by omega)) (v921 c f0 d0))))
    (e7 : L7 = Wide.pL accV.view L6 (Wide.shp (prod (v866 c f0 d0) (wload c f1 d1 (9 * n + 6) (by omega)) (v956 c f0 d0))))
    (e8 : L8 = Wide.pC accV.view L7 (Wide.shp (prod (v866 c f0 d0) (wload c f1 d1 (9 * n + 7) (by omega)) (v956 c f0 d0))))
    (e9 : L9 = Wide.pR accV.view L8 (Wide.shp (prod (v866 c f0 d0) (wload c f1 d1 (9 * n + 8) (by omega)) (v956 c f0 d0)))) (b : Fin 2) (w : Fin 12) (h : Fin 8) (l : Fin 256) :
    Wide.acc accV.view L9 b w h l = conv c f0 f1 b w h ⟨256 * n + l.val, by omega⟩ := by
  rw [Wide.tile_acc accV.view e1 e2 e3 e4 e5 e6 e7 e8 e9]
  unfold conv tapSum
  rw [prod_tap c f0 f1 d0 d1 (9 * n) (by omega) (v921 c f0 d0) 1 (plane1 c f0 d0) l 4 ((tapAt_add n 0 (by omega)).trans rfl) ⟨256 * n + l.val, by omega⟩ (by show 256 * n + l.val = _; omega)]
  rw [prod_tap c f0 f1 d0 d1 (9 * n + 1) (by omega) (v883 c f0 d0) 0 (plane0 c f0 d0) l 0 ((tapAt_add n 1 (by omega)).trans rfl) ⟨256 * n + l.val, by omega⟩ (by show 256 * n + l.val = _; omega)]
  rw [prod_tap c f0 f1 d0 d1 (9 * n + 2) (by omega) (v883 c f0 d0) 0 (plane0 c f0 d0) l 1 ((tapAt_add n 2 (by omega)).trans rfl) ⟨256 * n + l.val, by omega⟩ (by show 256 * n + l.val = _; omega)]
  rw [prod_tap c f0 f1 d0 d1 (9 * n + 3) (by omega) (v883 c f0 d0) 0 (plane0 c f0 d0) l 2 ((tapAt_add n 3 (by omega)).trans rfl) ⟨256 * n + l.val, by omega⟩ (by show 256 * n + l.val = _; omega)]
  rw [prod_tap c f0 f1 d0 d1 (9 * n + 4) (by omega) (v921 c f0 d0) 1 (plane1 c f0 d0) l 3 ((tapAt_add n 4 (by omega)).trans rfl) ⟨256 * n + l.val, by omega⟩ (by show 256 * n + l.val = _; omega)]
  rw [prod_tap c f0 f1 d0 d1 (9 * n + 5) (by omega) (v921 c f0 d0) 1 (plane1 c f0 d0) l 5 ((tapAt_add n 5 (by omega)).trans rfl) ⟨256 * n + l.val, by omega⟩ (by show 256 * n + l.val = _; omega)]
  rw [prod_tap c f0 f1 d0 d1 (9 * n + 6) (by omega) (v956 c f0 d0) 2 (plane2 c f0 d0) l 6 ((tapAt_add n 6 (by omega)).trans rfl) ⟨256 * n + l.val, by omega⟩ (by show 256 * n + l.val = _; omega)]
  rw [prod_tap c f0 f1 d0 d1 (9 * n + 7) (by omega) (v956 c f0 d0) 2 (plane2 c f0 d0) l 7 ((tapAt_add n 7 (by omega)).trans rfl) ⟨256 * n + l.val, by omega⟩ (by show 256 * n + l.val = _; omega)]
  rw [prod_tap c f0 f1 d0 d1 (9 * n + 8) (by omega) (v956 c f0 d0) 2 (plane2 c f0 d0) l 8 ((tapAt_add n 8 (by omega)).trans rfl) ⟨256 * n + l.val, by omega⟩ (by show 256 * n + l.val = _; omega)]

theorem tile0 (b : Fin 2) (w : Fin 12) (h : Fin 8) (l : Fin 256) :
    Wide.acc accV.view (D10_9 c f0 f1 d0 d1) b w h l = conv c f0 f1 b w h ⟨256 * 0 + l.val, by omega⟩ :=
  tile_conv c f0 f1 d0 d1 0 (by omega) (L0 := []) (L1 := D10_1 c f0 f1 d0 d1) (L2 := D10_2 c f0 f1 d0 d1) (L3 := D10_3 c f0 f1 d0 d1) (L4 := D10_4 c f0 f1 d0 d1) (L5 := D10_5 c f0 f1 d0 d1) (L6 := D10_6 c f0 f1 d0 d1) (L7 := D10_7 c f0 f1 d0 d1) (L8 := D10_8 c f0 f1 d0 d1)
    rfl rfl rfl rfl rfl rfl rfl rfl rfl b w h l

theorem tile1 (b : Fin 2) (w : Fin 12) (h : Fin 8) (l : Fin 256) :
    Wide.acc accV.view (D10_18 c f0 f1 d0 d1) b w h l = conv c f0 f1 b w h ⟨256 * 1 + l.val, by omega⟩ :=
  tile_conv c f0 f1 d0 d1 1 (by omega) (L0 := D10_9 c f0 f1 d0 d1) (L1 := D10_10 c f0 f1 d0 d1) (L2 := D10_11 c f0 f1 d0 d1) (L3 := D10_12 c f0 f1 d0 d1) (L4 := D10_13 c f0 f1 d0 d1) (L5 := D10_14 c f0 f1 d0 d1) (L6 := D10_15 c f0 f1 d0 d1) (L7 := D10_16 c f0 f1 d0 d1) (L8 := D10_17 c f0 f1 d0 d1)
    rfl rfl rfl rfl rfl rfl rfl rfl rfl b w h l

theorem tile2 (b : Fin 2) (w : Fin 12) (h : Fin 8) (l : Fin 256) :
    Wide.acc accV.view (D10_27 c f0 f1 d0 d1) b w h l = conv c f0 f1 b w h ⟨256 * 2 + l.val, by omega⟩ :=
  tile_conv c f0 f1 d0 d1 2 (by omega) (L0 := D10_18 c f0 f1 d0 d1) (L1 := D10_19 c f0 f1 d0 d1) (L2 := D10_20 c f0 f1 d0 d1) (L3 := D10_21 c f0 f1 d0 d1) (L4 := D10_22 c f0 f1 d0 d1) (L5 := D10_23 c f0 f1 d0 d1) (L6 := D10_24 c f0 f1 d0 d1) (L7 := D10_25 c f0 f1 d0 d1) (L8 := D10_26 c f0 f1 d0 d1)
    rfl rfl rfl rfl rfl rfl rfl rfl rfl b w h l

theorem tile3 (b : Fin 2) (w : Fin 12) (h : Fin 8) (l : Fin 256) :
    Wide.acc accV.view (D10_36 c f0 f1 d0 d1) b w h l = conv c f0 f1 b w h ⟨256 * 3 + l.val, by omega⟩ :=
  tile_conv c f0 f1 d0 d1 3 (by omega) (L0 := D10_27 c f0 f1 d0 d1) (L1 := D10_28 c f0 f1 d0 d1) (L2 := D10_29 c f0 f1 d0 d1) (L3 := D10_30 c f0 f1 d0 d1) (L4 := D10_31 c f0 f1 d0 d1) (L5 := D10_32 c f0 f1 d0 d1) (L6 := D10_33 c f0 f1 d0 d1) (L7 := D10_34 c f0 f1 d0 d1) (L8 := D10_35 c f0 f1 d0 d1)
    rfl rfl rfl rfl rfl rfl rfl rfl rfl b w h l

theorem tile4 (b : Fin 2) (w : Fin 12) (h : Fin 8) (l : Fin 256) :
    Wide.acc accV.view (D10_45 c f0 f1 d0 d1) b w h l = conv c f0 f1 b w h ⟨256 * 4 + l.val, by omega⟩ :=
  tile_conv c f0 f1 d0 d1 4 (by omega) (L0 := D10_36 c f0 f1 d0 d1) (L1 := D10_37 c f0 f1 d0 d1) (L2 := D10_38 c f0 f1 d0 d1) (L3 := D10_39 c f0 f1 d0 d1) (L4 := D10_40 c f0 f1 d0 d1) (L5 := D10_41 c f0 f1 d0 d1) (L6 := D10_42 c f0 f1 d0 d1) (L7 := D10_43 c f0 f1 d0 d1) (L8 := D10_44 c f0 f1 d0 d1)
    rfl rfl rfl rfl rfl rfl rfl rfl rfl b w h l

end

end Cert.KernelIdeal.Hand

end
-- ==== Proof.TapNarrow.lean ====
/-
  The accumulation of the nine taps in a scratch of 128 lanes, apart from where its operands come from. A tap's product, one row
  per pixel, is rolled by one image row or not (`sh0`, `shm`, `shp`) and added at one image column to the left or right or not
  (`pL`, `pC`, `pR`); `shv` is the sum's value at a pixel: the product's row for the neighbour, zero outside the image's width.
-/
module

public import proofs.«01_k».proof.Proof.Shift
public import proofs.«01_k».proof.Proof.Gen.KernelIdeal.Skeleton
public import Idealize.ShloMosaic.Lib.Pointwise
public import Idealize.ShloMosaic.Lib.WritesUnit
public import Idealize.ShloMosaic.Lib.Pipeline.FrameSuffixV

@[expose] public section

set_option maxRecDepth 16384

noncomputable section

namespace Cert.KernelIdeal.Hand.Narrow

open Cert.KernelIdeal Cert.KernelIdeal.Gen
open Idealize.ShloMosaic Idealize.ShloMosaic.TcCoe Idealize.SL.Sem
open Cert.Shift

/-- A tap's products, one image row after the other, not rolled. -/
abbrev sh0 (X : FVec Ideal S192x128 .f32) : FVec Ideal S2x12x8x128 .f32 :=
  shapeCast S2x12x8x128 (shapeCast S24x8x128 X shapeCasts_S192x128_S24x8x128) shapeCasts_S24x8x128_S2x12x8x128
/-- Rolled one image row down. -/
abbrev shm (X : FVec Ideal S192x128 .f32) : FVec Ideal S2x12x8x128 .f32 :=
  shapeCast S2x12x8x128 (dynamicRotate 1 1#32 none (shapeCast S24x8x128 X shapeCasts_S192x128_S24x8x128) rotates_S24x8x128_d1) shapeCasts_S24x8x128_S2x12x8x128
/-- Rolled one image row up. -/
abbrev shp (X : FVec Ideal S192x128 .f32) : FVec Ideal S2x12x8x128 .f32 :=
  shapeCast S2x12x8x128 (dynamicRotate 1 7#32 none (shapeCast S24x8x128 X shapeCasts_S192x128_S24x8x128) rotates_S24x8x128_d1) shapeCasts_S24x8x128_S2x12x8x128

theorem sh0_at (X : FVec Ideal S192x128 .f32) (b : Fin 2) (w : Fin 12) (h : Fin 8) (l : Fin 128) :
    sh0 X (ix4 b w h l) = X (ix2 (pix b w (rowOf 1 h)) l) := by
  pointwise
  all_goals (congr 2; try (apply Fin.ext; simp [pix, rowOf]; try omega))
theorem shm_at (X : FVec Ideal S192x128 .f32) (b : Fin 2) (w : Fin 12) (h : Fin 8) (l : Fin 128) :
    shm X (ix4 b w h l) = X (ix2 (pix b w (rowOf 0 h)) l) := by
  pointwise
  all_goals (congr 2; try (apply Fin.ext; simp [pix, rowOf]; try omega))
theorem shp_at (X : FVec Ideal S192x128 .f32) (b : Fin 2) (w : Fin 12) (h : Fin 8) (l : Fin 128) :
    shp X (ix4 b w h l) = X (ix2 (pix b w (rowOf 2 h)) l) := by
  pointwise
  all_goals (congr 2; try (apply Fin.ext; simp [pix, rowOf]; try omega))

variable {sp : Space} (v : View sig .tc sp S2x12x8x128 .f32)

abbrev PL := List (View.Piece (Elt Ideal) S2x12x8x128 EltTy.f32)
abbrev RL : Rect S2x12x8x128 := Rect.unit ![0, 1, 0, 0] S2x11x8x128.size inb_S2x12x8x128_S2x11x8x128_0_1_0_0
abbrev RC : Rect S2x12x8x128 := Rect.unit ![0, 0, 0, 0] S2x12x8x128.size inb_S2x12x8x128_S2x12x8x128_0_0_0_0
abbrev RR : Rect S2x12x8x128 := Rect.unit ![0, 0, 0, 0] S2x11x8x128.size inb_S2x12x8x128_S2x11x8x128_0_0_0_0

/-- The scratch overwritten by a tap. -/
abbrev pS (L : PL) (X : FVec Ideal S2x12x8x128 .f32) : PL :=
  ⟨RC, shapeCast S2x12x8x128 X shapeCasts_S2x12x8x128_S2x12x8x128⟩ :: L
/-- A tap added from the column to the left. -/
abbrev pL (L : PL) (X : FVec Ideal S2x12x8x128 .f32) : PL :=
  ⟨RL, shapeCast S2x11x8x128 (addf (v.readCov L RL.toLoadRect) (extractStridedSlice S2x11x8x128 ![0, 0, 0, 0] X slices_S2x12x8x128_o0_0_0_0_S2x11x8x128))
    shapeCasts_S2x11x8x128_S2x11x8x128⟩ :: L
/-- A tap added from its own column. -/
abbrev pC (L : PL) (X : FVec Ideal S2x12x8x128 .f32) : PL :=
  ⟨RC, shapeCast S2x12x8x128 (addf (v.readCov L RC.toLoadRect) X) shapeCasts_S2x12x8x128_S2x12x8x128⟩ :: L
/-- A tap added from the column to the right. -/
abbrev pR (L : PL) (X : FVec Ideal S2x12x8x128 .f32) : PL :=
  ⟨RR, shapeCast S2x11x8x128 (addf (v.readCov L RR.toLoadRect) (extractStridedSlice S2x11x8x128 ![0, 1, 0, 0] X slices_S2x12x8x128_o0_1_0_0_S2x11x8x128))
    shapeCasts_S2x11x8x128_S2x11x8x128⟩ :: L

/-- The scratch after the stores `L`, at a pixel and lane. -/
def acc (L : PL) (b : Fin 2) (w : Fin 12) (h : Fin 8) (l : Fin 128) : EReal :=
  v.read (Elt Ideal) (v.writes (Elt Ideal) v.junk L) (ix4 b w h l)

theorem idxC (b : Fin 2) (w : Fin 12) (h : Fin 8) (l : Fin 128) : RC.toLoadRect.idx (ix4 b w h l) = ix4 b w h l := by
  funext a; apply Fin.ext; fin_cases a <;> simp [LoadRect.idx, Rect.toLoadRect, Rect.unit]
theorem idxL (b : Fin 2) (w : Fin 11) (h : Fin 8) (l : Fin 128) : RL.toLoadRect.idx (ix4 b w h l) = ix4 b ⟨w.val + 1, by omega⟩ h l := by
  funext a; apply Fin.ext; fin_cases a <;> simp [LoadRect.idx, Rect.toLoadRect, Rect.unit]; omega
theorem idxR (b : Fin 2) (w : Fin 11) (h : Fin 8) (l : Fin 128) : RR.toLoadRect.idx (ix4 b w h l) = ix4 b ⟨w.val, by omega⟩ h l := by
  funext a; apply Fin.ext; fin_cases a <;> simp [LoadRect.idx, Rect.toLoadRect, Rect.unit]

theorem covC (L : PL) (b : Fin 2) (w : Fin 12) (h : Fin 8) (l : Fin 128) : v.readCov L RC.toLoadRect (ix4 b w h l) = acc v L b w h l := by
  show v.read _ _ (RC.toLoadRect.idx _) = _
  rw [idxC]; rfl
theorem covL (L : PL) (b : Fin 2) (w : Fin 11) (h : Fin 8) (l : Fin 128) : v.readCov L RL.toLoadRect (ix4 b w h l) = acc v L b ⟨w.val + 1, by omega⟩ h l := by
  show v.read _ _ (RL.toLoadRect.idx _) = _
  rw [idxL]; rfl
theorem covR (L : PL) (b : Fin 2) (w : Fin 11) (h : Fin 8) (l : Fin 128) : v.readCov L RR.toLoadRect (ix4 b w h l) = acc v L b ⟨w.val, by omega⟩ h l := by
  show v.read _ _ (RR.toLoadRect.idx _) = _
  rw [idxR]; rfl

theorem acc_pS (L : PL) (X : FVec Ideal S2x12x8x128 .f32) (b : Fin 2) (w : Fin 12) (h : Fin 8) (l : Fin 128) :
    acc v (pS L X) b w h l = X (ix4 b w h l) := by
  unfold acc
  refine (View.read_writes_cons_unit_of_mem v v.junk (off := ![0, 0, 0, 0]) (off' := ![0, 0, 0, 0]) (size := S2x12x8x128.size) inb_S2x12x8x128_S2x12x8x128_0_0_0_0 _ L _ (ix4 b w h l) rfl ?_).trans ?_
  · intro a; fin_cases a <;> simp <;> try omega
  pointwise

theorem acc_pC (L : PL) (X : FVec Ideal S2x12x8x128 .f32) (b : Fin 2) (w : Fin 12) (h : Fin 8) (l : Fin 128) :
    acc v (pC v L X) b w h l = acc v L b w h l + X (ix4 b w h l) := by
  conv_lhs => unfold acc
  refine (View.read_writes_cons_unit_of_mem v v.junk (off := ![0, 0, 0, 0]) (off' := ![0, 0, 0, 0]) (size := S2x12x8x128.size) inb_S2x12x8x128_S2x12x8x128_0_0_0_0 _ L _ (ix4 b w h l) rfl ?_).trans ?_
  · intro a; fin_cases a <;> simp <;> try omega
  generalize hY : v.readCov L RC.toLoadRect = Y
  pointwise
  rw [← hY, covC]

theorem acc_pL (L : PL) (X : FVec Ideal S2x12x8x128 .f32) (b : Fin 2) (w : Fin 12) (h : Fin 8) (l : Fin 128) :
    acc v (pL v L X) b w h l = acc v L b w h l + (if hw : 1 ≤ w.val then X (ix4 b ⟨w.val - 1, by omega⟩ h l) else 0) := by
  by_cases hw : 1 ≤ w.val
  · rw [dif_pos hw]
    conv_lhs => unfold acc
    refine (View.read_writes_cons_unit_of_mem v v.junk (off := ![0, 1, 0, 0]) (off' := ![0, 1, 0, 0]) (size := S2x11x8x128.size) inb_S2x12x8x128_S2x11x8x128_0_1_0_0 _ L _ (ix4 b (⟨w.val - 1, by omega⟩ : Fin 11) h l) rfl ?_).trans ?_
    · intro a; fin_cases a <;> simp <;> try omega
    generalize hY : v.readCov L RL.toLoadRect = Y
    pointwise
    rw [← hY, covL]
    congr 2; apply Fin.ext; simp; omega
  · rw [dif_neg hw, add_zero]
    unfold acc
    refine View.read_writes_cons_unit_of_not_mem v v.junk (off := ![0, 1, 0, 0]) (off' := ![0, 1, 0, 0]) (size := S2x11x8x128.size) inb_S2x12x8x128_S2x11x8x128_0_1_0_0 _ L _ rfl 1 ?_
    left; show w.val < 1; omega

theorem acc_pR (L : PL) (X : FVec Ideal S2x12x8x128 .f32) (b : Fin 2) (w : Fin 12) (h : Fin 8) (l : Fin 128) :
    acc v (pR v L X) b w h l = acc v L b w h l + (if hw : w.val < 11 then X (ix4 b ⟨w.val + 1, by omega⟩ h l) else 0) := by
  by_cases hw : w.val < 11
  · rw [dif_pos hw]
    conv_lhs => unfold acc
    refine (View.read_writes_cons_unit_of_mem v v.junk (off := ![0, 0, 0, 0]) (off' := ![0, 0, 0, 0]) (size := S2x11x8x128.size) inb_S2x12x8x128_S2x11x8x128_0_0_0_0 _ L _ (ix4 b (⟨w.val, hw⟩ : Fin 11) h l) rfl ?_).trans ?_
    · intro a; fin_cases a <;> simp <;> try omega
    generalize hY : v.readCov L RR.toLoadRect = Y
    pointwise
    rw [← hY, covR]
    simp only [Nat.add_comm 1 w.val]
  · rw [dif_neg hw, add_zero]
    unfold acc
    refine View.read_writes_cons_unit_of_not_mem v v.junk (off := ![0, 0, 0, 0]) (off' := ![0, 0, 0, 0]) (size := S2x11x8x128.size) inb_S2x12x8x128_S2x11x8x128_0_0_0_0 _ L _ rfl 1 ?_
    right; show 0 + 11 ≤ w.val; omega

/-- A column of products, as a function of the pixel. -/
abbrev col (X : FVec Ideal S192x128 .f32) (l : Fin 128) : Fin 192 → EReal := fun p => X (ix2 p l)

theorem at_C {kh : Fin 3} {Y : FVec Ideal S2x12x8x128 .f32} {X : FVec Ideal S192x128 .f32}
    (hY : ∀ b w h l, Y (ix4 b w h l) = X (ix2 (pix b w (rowOf kh h)) l)) (b : Fin 2) (w : Fin 12) (h : Fin 8) (l : Fin 128) :
    Y (ix4 b w h l) = shv kh 1 (col X l) b w h := by
  unfold shv
  rw [dif_pos ⟨by show 1 ≤ w.val + 1; omega, by show w.val + 1 ≤ 12; omega⟩, hY]; rfl
theorem at_L {kh : Fin 3} {Y : FVec Ideal S2x12x8x128 .f32} {X : FVec Ideal S192x128 .f32}
    (hY : ∀ b w h l, Y (ix4 b w h l) = X (ix2 (pix b w (rowOf kh h)) l)) (b : Fin 2) (w : Fin 12) (h : Fin 8) (l : Fin 128) :
    (if hw : 1 ≤ w.val then Y (ix4 b ⟨w.val - 1, by omega⟩ h l) else 0) = shv kh 0 (col X l) b w h := by
  unfold shv
  by_cases hw : 1 ≤ w.val
  · rw [dif_pos hw, dif_pos ⟨by show 1 ≤ w.val + 0; omega, by show w.val + 0 ≤ 12; omega⟩, hY]; rfl
  · rw [dif_neg hw, dif_neg (by show ¬(1 ≤ w.val + 0 ∧ w.val + 0 ≤ 12); omega)]
theorem at_R {kh : Fin 3} {Y : FVec Ideal S2x12x8x128 .f32} {X : FVec Ideal S192x128 .f32}
    (hY : ∀ b w h l, Y (ix4 b w h l) = X (ix2 (pix b w (rowOf kh h)) l)) (b : Fin 2) (w : Fin 12) (h : Fin 8) (l : Fin 128) :
    (if hw : w.val < 11 then Y (ix4 b ⟨w.val + 1, by omega⟩ h l) else 0) = shv kh 2 (col X l) b w h := by
  unfold shv
  by_cases hw : w.val < 11
  · rw [dif_pos hw, dif_pos ⟨by show 1 ≤ w.val + 2; omega, by show w.val + 2 ≤ 12; omega⟩, hY]; rfl
  · rw [dif_neg hw, dif_neg (by show ¬(1 ≤ w.val + 2 ∧ w.val + 2 ≤ 12); omega)]

/-- The even taps in program order, read at a pixel and lane. -/
theorem lo_acc {L0 L1 L2 L3 L4 L5 L6 : PL} {Z : FVec Ideal S2x12x8x128 .f32} {X0 X2 X4 X6 X8 : FVec Ideal S192x128 .f32}
    (e1 : L1 = pS L0 Z) (e2 : L2 = pL v L1 (shm X0)) (e3 : L3 = pR v L2 (shm X2)) (e4 : L4 = pC v L3 (sh0 X4))
    (e5 : L5 = pL v L4 (shp X6)) (e6 : L6 = pR v L5 (shp X8)) (b : Fin 2) (w : Fin 12) (h : Fin 8) (l : Fin 128) :
    acc v L6 b w h l = Z (ix4 b w h l) + shv 0 0 (col X0 l) b w h + shv 0 2 (col X2 l) b w h + shv 1 1 (col X4 l) b w h
      + shv 2 0 (col X6 l) b w h + shv 2 2 (col X8 l) b w h := by
  rw [e6, acc_pR, at_R (shp_at X8), e5, acc_pL, at_L (shp_at X6), e4, acc_pC, at_C (sh0_at X4), e3, acc_pR, at_R (shm_at X2),
    e2, acc_pL, at_L (shm_at X0), e1, acc_pS]
/-- The odd taps in program order, read at a pixel and lane. -/
theorem hi_acc {L0 L1 L2 L3 L4 L5 : PL} {Z : FVec Ideal S2x12x8x128 .f32} {X1 X3 X5 X7 : FVec Ideal S192x128 .f32}
    (e1 : L1 = pS L0 Z) (e2 : L2 = pC v L1 (shm X1)) (e3 : L3 = pL v L2 (sh0 X3)) (e4 : L4 = pR v L3 (sh0 X5))
    (e5 : L5 = pC v L4 (shp X7)) (b : Fin 2) (w : Fin 12) (h : Fin 8) (l : Fin 128) :
    acc v L5 b w h l = Z (ix4 b w h l) + shv 0 1 (col X1 l) b w h + shv 1 0 (col X3 l) b w h + shv 1 2 (col X5 l) b w h
      + shv 2 1 (col X7 l) b w h := by
  rw [e5, acc_pC, at_C (shp_at X7), e4, acc_pR, at_R (sh0_at X5), e3, acc_pL, at_L (sh0_at X3), e2, acc_pC, at_C (shm_at X1),
    e1, acc_pS]

end Cert.KernelIdeal.Hand.Narrow
-- ==== Proof.Lora.lean ====
/-
  The LoRA branch's first half: `lora` is its nine taps at a pixel and one of the sixty-four ranks, in the kernel's order. The kernel
  keeps the even taps in one scratch buffer and the odd taps, sixty-four lanes higher, in another; rolled and added they leave
  `lora` in the buffer the second half reads (`down_at`).
-/
module

import all proofs.«01_k».proof.Proof.BodyIdeal
public import proofs.«01_k».proof.Proof.BodyIdeal
public import proofs.«01_k».proof.Proof.Tiles
public import proofs.«01_k».proof.Proof.TapNarrow

@[expose] public section

set_option maxRecDepth 16384

noncomputable section

namespace Cert.KernelIdeal.Hand

open Cert.KernelIdeal Cert.KernelIdeal.Gen
open Idealize.ShloMosaic Idealize.ShloMosaic.TcCoe Idealize.SL.Sem
open Cert.Shift kernelRun.sl

section
variable (c : Dev nD) (f0 : Bf (F := Ideal) c xH) (f4 : Bf (F := Ideal) c ldH) (d0 : Bf (F := Ideal) c xV) (d4 : Bf (F := Ideal) c ldV)

/-- The branch's first matrix, as its operand holds it: sixty-four rows for each tap. -/
noncomputable def ld (r : Fin 576) (k : Fin 2560) : EReal := (show S576x2560.Idx → EReal from f4) (ix2 r k)

/-- Rows of the staged first matrix, from row `n`. -/
noncomputable abbrev ldload (n m : ℕ) (inb : ∀ a, (![n, 0] : Fin 2 → ℕ) a + (⟨2, ![m, 2560]⟩ : Shape).size a ≤ S576x2560.size a) :=
  View.readAt (Elt Ideal) ldV.view (Rect.unit (s := S576x2560) ![n, 0] (⟨2, ![m, 2560]⟩ : Shape).size inb).toLoadRect (View.write (Elt Ideal) ldV.view d4 (dma0_1 c f4) Finset.univ)

theorem ldload_at (n m : ℕ) (inb) (r : Fin m) (k : Fin 2560) (hr : n + r.val < 576) :
    ldload c f4 d4 n m inb (ix2 r k) = ld c f4 ⟨n + r.val, hr⟩ k := by
  have e : (Rect.unit (s := S576x2560) ![n, 0] (⟨2, ![m, 2560]⟩ : Shape).size inb).toLoadRect.idx (ix2 r k) = ix2 (⟨n + r.val, hr⟩ : Fin 576) k := by
    funext a; apply Fin.ext; fin_cases a <;> simp [LoadRect.idx, Rect.toLoadRect, Rect.unit]
  show View.read (Elt Ideal) ldV.view (View.write (Elt Ideal) ldV.view d4 (dma0_1 c f4) Finset.univ) ((Rect.unit (s := S576x2560) ![n, 0] (⟨2, ![m, 2560]⟩ : Shape).size inb).toLoadRect.idx (ix2 r k)) = _
  rw [View.read_write_univ, e]
  rfl

/-- One row of the first matrix against a pixel's codes. -/
noncomputable def dotRow (p : Fin 192) (r : Fin 576) : EReal := ∑ k : Fin 2560, qv (row c f0 p) k * ld c f4 r k

theorem pay77_at (A : FVec Ideal S192x2560 .fp8e4m3) (B : FVec Ideal S256x2560 .bf16) (p : Fin 192) (r : Fin 256) :
    k0_pay77 (F := Ideal) A B (ix2 p r) = ∑ k : Fin 2560, A (ix2 p k) * B (ix2 r k) := by
  pointwise [k0_pay77, k0_pay76]
theorem pay78_at (A : FVec Ideal S192x2560 .fp8e4m3) (B : FVec Ideal S256x2560 .bf16) (p : Fin 192) (r : Fin 256) :
    k0_pay78 (F := Ideal) (k0_pay76 (F := Ideal) A) B (ix2 p r) = ∑ k : Fin 2560, A (ix2 p k) * B (ix2 r k) := by
  pointwise [k0_pay78, k0_pay76]
theorem pay79_at (A : FVec Ideal S192x2560 .fp8e4m3) (B : FVec Ideal S64x2560 .bf16) (p : Fin 192) (r : Fin 64) :
    k0_pay79 (F := Ideal) (k0_pay76 (F := Ideal) A) B (ix2 p r) = ∑ k : Fin 2560, A (ix2 p k) * B (ix2 r k) := by
  pointwise [k0_pay79, k0_pay76]

theorem first_at (p : Fin 192) (r : Fin 256) : r_26 (F := Ideal) c f0 f4 d0 d4 (ix2 p r) = dotRow c f0 f4 p ⟨r.val, by omega⟩ := by
  refine (pay77_at (v866 c f0 d0) (ldload c f4 d4 0 256 inb_S576x2560_S256x2560_0_0) p r).trans ?_
  refine Finset.sum_congr rfl fun k _ => Ideal.mul_congr (codes_at c f0 d0 p k) ((ldload_at c f4 d4 0 256 _ r k (by omega)).trans ?_)
  exact congrArg (fun i => ld c f4 i k) (Fin.ext (Nat.zero_add _))
theorem second_at (p : Fin 192) (r : Fin 256) : r_27 (F := Ideal) c f0 f4 d0 d4 (ix2 p r) = dotRow c f0 f4 p ⟨256 + r.val, by omega⟩ := by
  refine (pay78_at (v866 c f0 d0) (ldload c f4 d4 256 256 inb_S576x2560_S256x2560_256_0) p r).trans ?_
  exact Finset.sum_congr rfl fun k _ => Ideal.mul_congr (codes_at c f0 d0 p k) (ldload_at c f4 d4 256 256 _ r k (by omega))
theorem third_at (p : Fin 192) (r : Fin 64) : r_28 (F := Ideal) c f0 f4 d0 d4 (ix2 p r) = dotRow c f0 f4 p ⟨512 + r.val, by omega⟩ := by
  refine (pay79_at (v866 c f0 d0) (ldload c f4 d4 512 64 inb_S576x2560_S64x2560_512_0) p r).trans ?_
  exact Finset.sum_congr rfl fun k _ => Ideal.mul_congr (codes_at c f0 d0 p k) (ldload_at c f4 d4 512 64 _ r k (by omega))

/-- Half of the lanes of a product, each row times its pixel's scale. -/
noncomputable abbrev half0 (A : FVec Ideal S192x256 .f32) (S : FVec Ideal S1x192x128 .f32) : FVec Ideal S192x128 .f32 :=
  mulf (extractStridedSlice S192x128 ![0, 0] A slices_S192x256_o0_0_S192x128) (shapeCast S192x128 S shapeCasts_S1x192x128_S192x128)
noncomputable abbrev half1 (A : FVec Ideal S192x256 .f32) (S : FVec Ideal S1x192x128 .f32) : FVec Ideal S192x128 .f32 :=
  mulf (extractStridedSlice S192x128 ![0, 128] A slices_S192x256_o0_128_S192x128) (shapeCast S192x128 S shapeCasts_S1x192x128_S192x128)
noncomputable abbrev twice (A : FVec Ideal S192x64 .f32) (S : FVec Ideal S1x192x128 .f32) : FVec Ideal S192x128 .f32 :=
  mulf (concatenate S192x128 1 [⟨S192x64, A⟩, ⟨S192x64, A⟩] concatenates_S192x64_S192x64_S192x128_d1) (shapeCast S192x128 S shapeCasts_S1x192x128_S192x128)

theorem half0_at (A : FVec Ideal S192x256 .f32) (S : FVec Ideal S1x192x128 .f32) (p : Fin 192) (l : Fin 128) :
    half0 A S (ix2 p l) = A (ix2 p ⟨l.val, by omega⟩) * S (ix3 0 p l) := by
  pointwise
theorem half1_at (A : FVec Ideal S192x256 .f32) (S : FVec Ideal S1x192x128 .f32) (p : Fin 192) (l : Fin 128) :
    half1 A S (ix2 p l) = A (ix2 p ⟨128 + l.val, by omega⟩) * S (ix3 0 p l) := by
  pointwise
theorem twice_at (A : FVec Ideal S192x64 .f32) (S : FVec Ideal S1x192x128 .f32) (p : Fin 192) (l : Fin 64) :
    twice A S (ix2 p (⟨l.val, by omega⟩ : Fin 128)) = A (ix2 p l) * S (ix3 0 p ⟨l.val, by omega⟩) := by
  pointwise

/-- One tap at a pixel and a rank. -/
noncomputable def tapLow (t : Fin 9) (kh kw : Fin 3) (b : Fin 2) (w : Fin 12) (h : Fin 8) (k : Fin 64) : EReal :=
  shv kh kw (fun p => dotRow c f0 f4 p ⟨64 * t.val + k.val, by omega⟩ * plane c f0 kh p) b w h

/-- The nine taps, in the kernel's order. -/
noncomputable def lora (b : Fin 2) (w : Fin 12) (h : Fin 8) (k : Fin 64) : EReal :=
  (0 + tapLow c f0 f4 0 0 0 b w h k + tapLow c f0 f4 2 0 2 b w h k + tapLow c f0 f4 4 1 1 b w h k + tapLow c f0 f4 6 2 0 b w h k + tapLow c f0 f4 8 2 2 b w h k)
    + (0 + tapLow c f0 f4 1 0 1 b w h k + tapLow c f0 f4 3 1 0 b w h k + tapLow c f0 f4 5 1 2 b w h k + tapLow c f0 f4 7 2 1 b w h k)

theorem low_col (X : FVec Ideal S192x128 .f32) (l : Fin 128) (r : Fin 576) (kh : Fin 3)
    (hX : ∀ p, X (ix2 p l) = dotRow c f0 f4 p r * plane c f0 kh p) (t : Fin 9) (k : Fin 64) (hr : r.val = 64 * t.val + k.val) :
    Narrow.col X l = fun p => dotRow c f0 f4 p ⟨64 * t.val + k.val, by omega⟩ * plane c f0 kh p := by
  funext p
  refine (hX p).trans ?_
  exact congrArg (fun i => dotRow c f0 f4 p i * plane c f0 kh p) (Fin.ext hr)

theorem first0 (S : FVec Ideal S1x192x128 .f32) (kh : Fin 3) (hS : ∀ p l, S (ix3 0 p l) = plane c f0 kh p) (l : Fin 128) (p : Fin 192) :
    half0 (r_26 c f0 f4 d0 d4) S (ix2 p l) = dotRow c f0 f4 p ⟨l.val, by omega⟩ * plane c f0 kh p :=
  (half0_at _ S p l).trans (Ideal.mul_congr (first_at c f0 f4 d0 d4 p _) (hS p l))
theorem first1 (S : FVec Ideal S1x192x128 .f32) (kh : Fin 3) (hS : ∀ p l, S (ix3 0 p l) = plane c f0 kh p) (l : Fin 128) (p : Fin 192) :
    half1 (r_26 c f0 f4 d0 d4) S (ix2 p l) = dotRow c f0 f4 p ⟨128 + l.val, by omega⟩ * plane c f0 kh p :=
  (half1_at _ S p l).trans (Ideal.mul_congr (first_at c f0 f4 d0 d4 p _) (hS p l))
theorem second0 (S : FVec Ideal S1x192x128 .f32) (kh : Fin 3) (hS : ∀ p l, S (ix3 0 p l) = plane c f0 kh p) (l : Fin 128) (p : Fin 192) :
    half0 (r_27 c f0 f4 d0 d4) S (ix2 p l) = dotRow c f0 f4 p ⟨256 + l.val, by omega⟩ * plane c f0 kh p :=
  (half0_at _ S p l).trans (Ideal.mul_congr (second_at c f0 f4 d0 d4 p _) (hS p l))
theorem second1 (S : FVec Ideal S1x192x128 .f32) (kh : Fin 3) (hS : ∀ p l, S (ix3 0 p l) = plane c f0 kh p) (l : Fin 128) (p : Fin 192) :
    half1 (r_27 c f0 f4 d0 d4) S (ix2 p l) = dotRow c f0 f4 p ⟨256 + (128 + l.val), by omega⟩ * plane c f0 kh p :=
  (half1_at _ S p l).trans (Ideal.mul_congr (second_at c f0 f4 d0 d4 p _) (hS p l))
theorem third0 (S : FVec Ideal S1x192x128 .f32) (kh : Fin 3) (hS : ∀ p l, S (ix3 0 p l) = plane c f0 kh p) (l : Fin 64) (p : Fin 192) :
    twice (r_28 c f0 f4 d0 d4) S (ix2 p (⟨l.val, by omega⟩ : Fin 128)) = dotRow c f0 f4 p ⟨512 + l.val, by omega⟩ * plane c f0 kh p :=
  (twice_at _ S p l).trans (Ideal.mul_congr (third_at c f0 f4 d0 d4 p _) (hS p _))

theorem zero80_at (b : Fin 2) (w : Fin 12) (h : Fin 8) (l : Fin 128) : k0_pay80 (F := Ideal) (ix4 b w h l) = 0 := by
  pointwise [k0_pay80]
theorem zero81_at (b : Fin 2) (w : Fin 12) (h : Fin 8) (l : Fin 128) : k0_pay81 (F := Ideal) (ix4 b w h l) = 0 := by
  pointwise [k0_pay81]

/-- The even taps' buffer. -/
theorem even_at (b : Fin 2) (w : Fin 12) (h : Fin 8) (k : Fin 64) :
    Narrow.acc loV.view (D11_6 c f0 f4 d0 d4) b w h ⟨k.val, by omega⟩
      = 0 + tapLow c f0 f4 0 0 0 b w h k + tapLow c f0 f4 2 0 2 b w h k + tapLow c f0 f4 4 1 1 b w h k + tapLow c f0 f4 6 2 0 b w h k + tapLow c f0 f4 8 2 2 b w h k := by
  refine (Narrow.lo_acc loV.view (L6 := D11_6 c f0 f4 d0 d4) (L0 := []) (L1 := D11_1) (L2 := D11_2 c f0 f4 d0 d4) (L3 := D11_3 c f0 f4 d0 d4) (L4 := D11_4 c f0 f4 d0 d4) (L5 := D11_5 c f0 f4 d0 d4)
    (Z := k0_pay80 (F := Ideal)) (X0 := half0 (r_26 c f0 f4 d0 d4) (v883 c f0 d0)) (X2 := half1 (r_26 c f0 f4 d0 d4) (v883 c f0 d0))
    (X4 := half0 (r_27 c f0 f4 d0 d4) (v921 c f0 d0)) (X6 := half1 (r_27 c f0 f4 d0 d4) (v956 c f0 d0)) (X8 := twice (r_28 c f0 f4 d0 d4) (v956 c f0 d0))
    rfl rfl rfl rfl rfl rfl b w h ⟨k.val, by omega⟩).trans ?_
  rw [zero80_at]
  unfold tapLow
  rw [low_col c f0 f4 _ ⟨k.val, by omega⟩ _ 0 (first0 c f0 f4 d0 d4 _ 0 (plane0 c f0 d0) _) 0 k (by show k.val = 64 * 0 + k.val; omega),
    low_col c f0 f4 _ ⟨k.val, by omega⟩ _ 0 (first1 c f0 f4 d0 d4 _ 0 (plane0 c f0 d0) _) 2 k (by show 128 + k.val = 64 * 2 + k.val; omega),
    low_col c f0 f4 _ ⟨k.val, by omega⟩ _ 1 (second0 c f0 f4 d0 d4 _ 1 (plane1 c f0 d0) _) 4 k (by show 256 + k.val = 64 * 4 + k.val; omega),
    low_col c f0 f4 _ ⟨k.val, by omega⟩ _ 2 (second1 c f0 f4 d0 d4 _ 2 (plane2 c f0 d0) _) 6 k (by show 256 + (128 + k.val) = 64 * 6 + k.val; omega),
    low_col c f0 f4 _ ⟨k.val, by omega⟩ _ 2 (third0 c f0 f4 d0 d4 _ 2 (plane2 c f0 d0) k) 8 k (by show 512 + k.val = 64 * 8 + k.val; omega)]

/-- The odd taps' buffer, sixty-four lanes higher. -/
theorem odd_at (b : Fin 2) (w : Fin 12) (h : Fin 8) (k : Fin 64) :
    Narrow.acc hiV.view (D12_5 c f0 f4 d0 d4) b w h ⟨64 + k.val, by omega⟩
      = 0 + tapLow c f0 f4 1 0 1 b w h k + tapLow c f0 f4 3 1 0 b w h k + tapLow c f0 f4 5 1 2 b w h k + tapLow c f0 f4 7 2 1 b w h k := by
  refine (Narrow.hi_acc hiV.view (L5 := D12_5 c f0 f4 d0 d4) (L0 := []) (L1 := D12_1) (L2 := D12_2 c f0 f4 d0 d4) (L3 := D12_3 c f0 f4 d0 d4) (L4 := D12_4 c f0 f4 d0 d4)
    (Z := k0_pay81 (F := Ideal)) (X1 := half0 (r_26 c f0 f4 d0 d4) (v883 c f0 d0)) (X3 := half1 (r_26 c f0 f4 d0 d4) (v921 c f0 d0))
    (X5 := half0 (r_27 c f0 f4 d0 d4) (v921 c f0 d0)) (X7 := half1 (r_27 c f0 f4 d0 d4) (v956 c f0 d0))
    rfl rfl rfl rfl rfl b w h ⟨64 + k.val, by omega⟩).trans ?_
  rw [zero81_at]
  unfold tapLow
  rw [low_col c f0 f4 _ ⟨64 + k.val, by omega⟩ _ 0 (first0 c f0 f4 d0 d4 _ 0 (plane0 c f0 d0) _) 1 k (by show 64 + k.val = 64 * 1 + k.val; omega),
    low_col c f0 f4 _ ⟨64 + k.val, by omega⟩ _ 1 (first1 c f0 f4 d0 d4 _ 1 (plane1 c f0 d0) _) 3 k (by show 128 + (64 + k.val) = 64 * 3 + k.val; omega),
    low_col c f0 f4 _ ⟨64 + k.val, by omega⟩ _ 1 (second0 c f0 f4 d0 d4 _ 1 (plane1 c f0 d0) _) 5 k (by show 256 + (64 + k.val) = 64 * 5 + k.val; omega),
    low_col c f0 f4 _ ⟨64 + k.val, by omega⟩ _ 2 (second1 c f0 f4 d0 d4 _ 2 (plane2 c f0 d0) _) 7 k (by show 256 + (128 + (64 + k.val)) = 64 * 7 + k.val; omega)]

theorem pay95_at (A B : FVec Ideal S2x12x8x128 .f32) (b : Fin 2) (w : Fin 12) (h : Fin 8) (k : Fin 64) :
    k0_pay95 (F := Ideal) A B (ix2 (pix b w h) (⟨k.val, by omega⟩ : Fin 128)) = A (ix4 b w h ⟨k.val, by omega⟩) + B (ix4 b w h ⟨64 + k.val, by omega⟩) := by
  pointwise [k0_pay95]
  refine Ideal.add_congr ?_ ?_ <;>
  · refine congrArg _ ?_
    funext a; apply Fin.ext; fin_cases a <;> simp [pix] <;> omega

/-- What the second half reads. -/
theorem down_at (b : Fin 2) (w : Fin 12) (h : Fin 8) (k : Fin 64) : v1208 (F := Ideal) c f0 f4 d0 d4 (ix2 (pix b w h) k) = lora c f0 f4 b w h k := by
  have e : (Rect.unit (s := S192x128) ![0, 0] S192x64.size inb_S192x128_S192x64_0_0).toLoadRect.idx (ix2 (pix b w h) k) = ix2 (pix b w h) (⟨k.val, by omega⟩ : Fin 128) := by
    funext a; apply Fin.ext; fin_cases a <;> simp [LoadRect.idx, Rect.toLoadRect, Rect.unit]
  show dV.view.read (Elt Ideal) (dV.view.writes (Elt Ideal) dV.view.junk (D13_1 c f0 f4 d0 d4)) ((Rect.unit (s := S192x128) ![0, 0] S192x64.size inb_S192x128_S192x64_0_0).toLoadRect.idx (ix2 (pix b w h) k)) = _
  rw [e]
  refine (View.read_writes_cons_unit_of_mem (Val := Elt Ideal) dV.view dV.view.junk (off := ![0, 0]) (off' := ![0, 0]) (size := S192x128.size) inb_S192x128_S192x128_0_0 (k0_pay95 (v993 c f0 f4 d0 d4) (v995 c f0 f4 d0 d4)) [] _ (ix2 (pix b w h) (⟨k.val, by omega⟩ : Fin 128)) rfl ?_).trans ?_
  · intro a; fin_cases a <;> simp
  refine (pay95_at _ _ b w h k).trans ?_
  exact Ideal.add_congr ((Narrow.covC loV.view _ b w h _).trans (even_at c f0 f4 d0 d4 b w h k)) ((Narrow.covC hiV.view _ b w h _).trans (odd_at c f0 f4 d0 d4 b w h k))

end

end Cert.KernelIdeal.Hand

end
-- ==== Proof.Leaves.lean ====
/-
  What a run of the body leaves in the three results, whatever the scratch held before: `yOut` is the output, `qv` the codes, `sv` the
  scales (`leaves_spec`).
-/
module

import all proofs.«01_k».proof.Proof.BodyIdeal
public import proofs.«01_k».proof.Proof.BodyIdeal
public import proofs.«01_k».proof.Proof.FrameIdeal
public import proofs.«01_k».proof.Proof.Tiles
public import proofs.«01_k».proof.Proof.Lora

@[expose] public section

set_option maxRecDepth 16384

noncomputable section

namespace Cert.KernelIdeal.Hand

open Cert.KernelIdeal Cert.KernelIdeal.Gen
open Idealize.ShloMosaic Idealize.ShloMosaic.TcCoe Idealize.SL.Sem
open Cert.Shift kernelRun.sl

theorem pay111_at (D : FVec Ideal S192x64 .bf16) (U : FVec Ideal S64x256 .bf16) (A : FVec Ideal S2x12x8x256 .f32) (S B : FVec Ideal S1x256 .f32)
    (b : Fin 2) (w : Fin 12) (h : Fin 8) (l : Fin 256) :
    k0_pay111 (F := Ideal) D U A S B (ix3 0 (pix b w h) l)
      = (A (ix4 b w h l) * S (ix2 0 l) + B (ix2 0 l)) + Ideal.ofBits .f32 0x3E000000#32 * ∑ k : Fin 64, D (ix2 (pix b w h) k) * U (ix2 k l) := by
  pointwise [k0_pay111]
  refine Ideal.add_congr (Ideal.add_congr (Ideal.mul_congr (congrArg A ?_) rfl) rfl) rfl
  funext a; apply Fin.ext; fin_cases a <;> simp [pix] <;> omega

theorem inb_y (n : ℕ) (hn : n < 5) : ∀ a, (![n, 0, 0] : Fin 3 → ℕ) a + S1x192x256.size a ≤ S5x192x256.size a := by
  intro a; fin_cases a
  · show n + 1 ≤ 5; omega
  · show 0 + 192 ≤ 192; omega
  · show 0 + 256 ≤ 256; omega

theorem cast_y {α : Type} (f : S1x192x256.Idx → α) (p : Fin 192) (l : Fin 256) :
    shapeCast S192x256 f shapeCasts_S1x192x256_S192x256 (ix2 p l) = f (ix3 0 p l) := by
  pointwise

theorem inb_lu (n : ℕ) (hn : n < 5) : ∀ a, (![0, 256 * n] : Fin 2 → ℕ) a + S64x256.size a ≤ S64x1280.size a := by
  intro a; fin_cases a
  · show 0 + 64 ≤ 64; omega
  · show 256 * n + 256 ≤ 1280; omega
theorem inb_row (n : ℕ) (hn : n < 5) : ∀ a, (![0, 256 * n] : Fin 2 → ℕ) a + S1x256.size a ≤ S1x1280.size a := by
  intro a; fin_cases a
  · show 0 + 1 ≤ 1; omega
  · show 256 * n + 256 ≤ 1280; omega
theorem inb_out (n : ℕ) (hn : n < 5) : ∀ a, (![0, 256 * n] : Fin 2 → ℕ) a + S192x256.size a ≤ S192x1280.size a := by
  intro a; fin_cases a
  · show 0 + 192 ≤ 192; omega
  · show 256 * n + 256 ≤ 1280; omega

section
variable (c : Dev nD) (f0 : Bf (F := Ideal) c xH) (f1 : Bf (F := Ideal) c wH) (f2 : Bf (F := Ideal) c wsH) (f3 : Bf (F := Ideal) c bH) (f4 : Bf (F := Ideal) c ldH) (f5 : Bf (F := Ideal) c luH)
  (d0 : Bf (F := Ideal) c xV) (d1 : Bf (F := Ideal) c wV) (d2 : Bf (F := Ideal) c wsV) (d3 : Bf (F := Ideal) c bV) (d4 : Bf (F := Ideal) c ldV) (d5 : Bf (F := Ideal) c luV) (d14 : Bf (F := Ideal) c yV)

/-- The weights' scales, the biases and the branch's second matrix, as their operands hold them. -/
noncomputable def wscale (n : Fin 1280) : EReal := (show S1x1280.Idx → EReal from f2) (ix2 0 n)
noncomputable def bias (n : Fin 1280) : EReal := (show S1x1280.Idx → EReal from f3) (ix2 0 n)
noncomputable def lu (k : Fin 64) (n : Fin 1280) : EReal := (show S64x1280.Idx → EReal from f5) (ix2 k n)

/-- Columns of the staged second matrix. -/
noncomputable abbrev luload (n : ℕ) (hn : n < 5) : FVec Ideal S64x256 .bf16 :=
  View.readAt (Elt Ideal) luV.view (Rect.unit (s := S64x1280) ![0, 256 * n] S64x256.size (inb_lu n hn)).toLoadRect (View.write (Elt Ideal) luV.view d5 (dma0_4 c f5) Finset.univ)
noncomputable abbrev wsload (n : ℕ) (hn : n < 5) : FVec Ideal S1x256 .f32 :=
  View.readAt (Elt Ideal) wsV.view (Rect.unit (s := S1x1280) ![0, 256 * n] S1x256.size (inb_row n hn)).toLoadRect (View.write (Elt Ideal) wsV.view d2 (dma0_2 c f2) Finset.univ)
noncomputable abbrev bload (n : ℕ) (hn : n < 5) : FVec Ideal S1x256 .f32 :=
  View.readAt (Elt Ideal) bV.view (Rect.unit (s := S1x1280) ![0, 256 * n] S1x256.size (inb_row n hn)).toLoadRect (View.write (Elt Ideal) bV.view d3 (dma0_3 c f3) Finset.univ)

theorem idx_lu (n : ℕ) (hn : n < 5) (k : Fin 64) (l : Fin 256) :
    (Rect.unit (s := S64x1280) ![0, 256 * n] S64x256.size (inb_lu n hn)).toLoadRect.idx (ix2 k l) = ix2 k (⟨256 * n + l.val, by omega⟩ : Fin 1280) := by
  funext a; apply Fin.ext; fin_cases a <;> simp [LoadRect.idx, Rect.toLoadRect, Rect.unit]
theorem idx_row (n : ℕ) (hn : n < 5) (l : Fin 256) :
    (Rect.unit (s := S1x1280) ![0, 256 * n] S1x256.size (inb_row n hn)).toLoadRect.idx (ix2 0 l) = ix2 0 (⟨256 * n + l.val, by omega⟩ : Fin 1280) := by
  funext a; apply Fin.ext; fin_cases a <;> simp [LoadRect.idx, Rect.toLoadRect, Rect.unit]

theorem luload_at (n : ℕ) (hn : n < 5) (k : Fin 64) (l : Fin 256) : luload c f5 d5 n hn (ix2 k l) = lu c f5 k ⟨256 * n + l.val, by omega⟩ := by
  show View.read (Elt Ideal) luV.view (View.write (Elt Ideal) luV.view d5 (dma0_4 c f5) Finset.univ) ((Rect.unit (s := S64x1280) ![0, 256 * n] S64x256.size (inb_lu n hn)).toLoadRect.idx (ix2 k l)) = _
  rw [View.read_write_univ, idx_lu n hn]
  rfl
theorem wsload_at (n : ℕ) (hn : n < 5) (l : Fin 256) : wsload c f2 d2 n hn (ix2 0 l) = wscale c f2 ⟨256 * n + l.val, by omega⟩ := by
  show View.read (Elt Ideal) wsV.view (View.write (Elt Ideal) wsV.view d2 (dma0_2 c f2) Finset.univ) ((Rect.unit (s := S1x1280) ![0, 256 * n] S1x256.size (inb_row n hn)).toLoadRect.idx (ix2 0 l)) = _
  rw [View.read_write_univ, idx_row n hn]
  rfl
theorem bload_at (n : ℕ) (hn : n < 5) (l : Fin 256) : bload c f3 d3 n hn (ix2 0 l) = bias c f3 ⟨256 * n + l.val, by omega⟩ := by
  show View.read (Elt Ideal) bV.view (View.write (Elt Ideal) bV.view d3 (dma0_3 c f3) Finset.univ) ((Rect.unit (s := S1x1280) ![0, 256 * n] S1x256.size (inb_row n hn)).toLoadRect.idx (ix2 0 l)) = _
  rw [View.read_write_univ, idx_row n hn]
  rfl

/-- The output at a pixel and an output channel. -/
noncomputable def yOut (b : Fin 2) (w : Fin 12) (h : Fin 8) (n : Fin 1280) : EReal :=
  (conv c f0 f1 b w h n * wscale c f2 n + bias c f3 n) + Ideal.ofBits .f32 0x3E000000#32 * ∑ k : Fin 64, lora c f0 f4 b w h k * lu c f5 k n

/-- A tile's outputs, read back from the staging buffer. -/
noncomputable abbrev back (n : ℕ) (hn : n < 5) (L : List (View.Piece (Elt Ideal) S5x192x256 EltTy.bf16)) : S192x256.Idx → EReal :=
  ReadAs.same.apply (View.read (Elt Ideal) ((yV.slice (Rect.unit (s := S5x192x256) ![n, 0, 0] S1x192x256.size (inb_y n hn)) (fun _ => rfl)).squeeze S192x256 squeezes_S1x192x256_S192x256).view
    (yV.view.writes (Elt Ideal) d14 L))

theorem back_at (n : ℕ) (hn : n < 5) (P : FVec Ideal S1x192x256 .bf16) (L : List (View.Piece (Elt Ideal) S5x192x256 EltTy.bf16)) (p : Fin 192) (l : Fin 256) :
    back c d14 n hn (⟨Rect.unit (s := S5x192x256) ![n, 0, 0] S1x192x256.size (inb_y n hn), P⟩ :: L) (ix2 p l) = P (ix3 0 p l) := by
  have e : (Rect.unit (s := S5x192x256) ![n, 0, 0] S1x192x256.size (inb_y n hn)).toLoadRect.idx (ix3 0 p l) = ix3 (⟨n, hn⟩ : Fin 5) p l := by
    funext a; apply Fin.ext; fin_cases a <;> simp [LoadRect.idx, Rect.toLoadRect, Rect.unit]
  have h := cast_y (yV.view.readAt (Elt Ideal) (Rect.unit (s := S5x192x256) ![n, 0, 0] S1x192x256.size (inb_y n hn)).toLoadRect
    (yV.view.writes (Elt Ideal) d14 (⟨Rect.unit (s := S5x192x256) ![n, 0, 0] S1x192x256.size (inb_y n hn), P⟩ :: L))) p l
  refine Eq.trans (b := shapeCast S192x256 (yV.view.readAt (Elt Ideal) (Rect.unit (s := S5x192x256) ![n, 0, 0] S1x192x256.size (inb_y n hn)).toLoadRect
    (yV.view.writes (Elt Ideal) d14 (⟨Rect.unit (s := S5x192x256) ![n, 0, 0] S1x192x256.size (inb_y n hn), P⟩ :: L))) shapeCasts_S1x192x256_S192x256 (ix2 p l)) rfl (h.trans ?_)
  show yV.view.read (Elt Ideal) _ ((Rect.unit (s := S5x192x256) ![n, 0, 0] S1x192x256.size (inb_y n hn)).toLoadRect.idx (ix3 0 p l)) = _
  rw [e]
  refine (View.read_writes_cons_unit_of_mem (Val := Elt Ideal) yV.view d14 (off := ![n, 0, 0]) (off' := ![n, 0, 0]) (size := S1x192x256.size) (inb_y n hn) P L _ (ix3 0 p l) rfl ?_).trans rfl
  intro a; fin_cases a <;> simp

/-- A tile's outputs are `yOut`'s, its scratch being `conv`'s. -/
theorem back_out (n : ℕ) (hn : n < 5) (A : FVec Ideal S2x12x8x256 .f32) (hA : ∀ b w h l, A (ix4 b w h l) = conv c f0 f1 b w h ⟨256 * n + l.val, by omega⟩)
    (L : List (View.Piece (Elt Ideal) S5x192x256 EltTy.bf16)) (b : Fin 2) (w : Fin 12) (h : Fin 8) (l : Fin 256) :
    back c d14 n hn (⟨Rect.unit (s := S5x192x256) ![n, 0, 0] S1x192x256.size (inb_y n hn),
        k0_pay111 (F := Ideal) (v1208 (F := Ideal) c f0 f4 d0 d4) (luload c f5 d5 n hn) A (wsload c f2 d2 n hn) (bload c f3 d3 n hn)⟩ :: L) (ix2 (pix b w h) l)
      = yOut c f0 f1 f2 f3 f4 f5 b w h ⟨256 * n + l.val, by omega⟩ := by
  refine (back_at c d14 n hn _ L (pix b w h) l).trans ((pay111_at _ _ A _ _ b w h l).trans ?_)
  refine Ideal.add_congr (Ideal.add_congr (Ideal.mul_congr (hA b w h l) (wsload_at c f2 d2 n hn l)) (bload_at c f3 d3 n hn l)) (Ideal.mul_congr rfl ?_)
  exact Finset.sum_congr rfl fun k _ => Ideal.mul_congr (down_at c f0 f4 d0 d4 b w h k) (luload_at c f5 d5 n hn k l)

/-- A pixel's output by its number. -/
noncomputable def yAt (p : Fin 192) (n : Fin 1280) : EReal :=
  yOut c f0 f1 f2 f3 f4 f5 ⟨p.val / 96, by omega⟩ ⟨p.val / 8 % 12, by omega⟩ ⟨p.val % 8, by omega⟩ n

theorem pix_parts (p : Fin 192) : pix ⟨p.val / 96, by omega⟩ ⟨p.val / 8 % 12, by omega⟩ ⟨p.val % 8, by omega⟩ = p := by
  apply Fin.ext; show (p.val / 96 * 12 + p.val / 8 % 12) * 8 + p.val % 8 = p.val; omega

theorem out0 (p : Fin 192) (l : Fin 256) : dma219 (F := Ideal) c f0 f1 f2 f3 f4 f5 d0 d1 d2 d3 d4 d5 d14 (ix2 p l) = yAt c f0 f1 f2 f3 f4 f5 p ⟨256 * 0 + l.val, by omega⟩ := by
  have h := back_out c f0 f1 f2 f3 f4 f5 d0 d2 d3 d4 d5 d14 0 (by omega) (v1211 (F := Ideal) c f0 f1 d0 d1) (fun b w h l => (Wide.covC accV.view _ b w h l).trans (tile0 c f0 f1 d0 d1 b w h l))
    ([]) ⟨p.val / 96, by omega⟩ ⟨p.val / 8 % 12, by omega⟩ ⟨p.val % 8, by omega⟩ l
  rw [pix_parts] at h
  exact h
theorem out1 (p : Fin 192) (l : Fin 256) : dma279 (F := Ideal) c f0 f1 f2 f3 f4 f5 d0 d1 d2 d3 d4 d5 d14 (ix2 p l) = yAt c f0 f1 f2 f3 f4 f5 p ⟨256 * 1 + l.val, by omega⟩ := by
  have h := back_out c f0 f1 f2 f3 f4 f5 d0 d2 d3 d4 d5 d14 1 (by omega) (v1433 (F := Ideal) c f0 f1 d0 d1) (fun b w h l => (Wide.covC accV.view _ b w h l).trans (tile1 c f0 f1 d0 d1 b w h l))
    (D14_1 (F := Ideal) c f0 f1 f2 f3 f4 f5 d0 d1 d2 d3 d4 d5) ⟨p.val / 96, by omega⟩ ⟨p.val / 8 % 12, by omega⟩ ⟨p.val % 8, by omega⟩ l
  rw [pix_parts] at h
  exact h
theorem out2 (p : Fin 192) (l : Fin 256) : dma339 (F := Ideal) c f0 f1 f2 f3 f4 f5 d0 d1 d2 d3 d4 d5 d14 (ix2 p l) = yAt c f0 f1 f2 f3 f4 f5 p ⟨256 * 2 + l.val, by omega⟩ := by
  have h := back_out c f0 f1 f2 f3 f4 f5 d0 d2 d3 d4 d5 d14 2 (by omega) (v1655 (F := Ideal) c f0 f1 d0 d1) (fun b w h l => (Wide.covC accV.view _ b w h l).trans (tile2 c f0 f1 d0 d1 b w h l))
    (D14_2 (F := Ideal) c f0 f1 f2 f3 f4 f5 d0 d1 d2 d3 d4 d5) ⟨p.val / 96, by omega⟩ ⟨p.val / 8 % 12, by omega⟩ ⟨p.val % 8, by omega⟩ l
  rw [pix_parts] at h
  exact h
theorem out3 (p : Fin 192) (l : Fin 256) : dma399 (F := Ideal) c f0 f1 f2 f3 f4 f5 d0 d1 d2 d3 d4 d5 d14 (ix2 p l) = yAt c f0 f1 f2 f3 f4 f5 p ⟨256 * 3 + l.val, by omega⟩ := by
  have h := back_out c f0 f1 f2 f3 f4 f5 d0 d2 d3 d4 d5 d14 3 (by omega) (v1877 (F := Ideal) c f0 f1 d0 d1) (fun b w h l => (Wide.covC accV.view _ b w h l).trans (tile3 c f0 f1 d0 d1 b w h l))
    (D14_3 (F := Ideal) c f0 f1 f2 f3 f4 f5 d0 d1 d2 d3 d4 d5) ⟨p.val / 96, by omega⟩ ⟨p.val / 8 % 12, by omega⟩ ⟨p.val % 8, by omega⟩ l
  rw [pix_parts] at h
  exact h
theorem out4 (p : Fin 192) (l : Fin 256) : dma459 (F := Ideal) c f0 f1 f2 f3 f4 f5 d0 d1 d2 d3 d4 d5 d14 (ix2 p l) = yAt c f0 f1 f2 f3 f4 f5 p ⟨256 * 4 + l.val, by omega⟩ := by
  have h := back_out c f0 f1 f2 f3 f4 f5 d0 d2 d3 d4 d5 d14 4 (by omega) (v2099 (F := Ideal) c f0 f1 d0 d1) (fun b w h l => (Wide.covC accV.view _ b w h l).trans (tile4 c f0 f1 d0 d1 b w h l))
    (D14_4 (F := Ideal) c f0 f1 f2 f3 f4 f5 d0 d1 d2 d3 d4 d5) ⟨p.val / 96, by omega⟩ ⟨p.val / 8 % 12, by omega⟩ ⟨p.val % 8, by omega⟩ l
  rw [pix_parts] at h
  exact h

/-- A tile's place in the output. -/
noncomputable abbrev ypiece (n : ℕ) (hn : n < 5) (P : S192x256.Idx → EReal) : View.Piece (Elt Ideal) S192x1280 EltTy.bf16 :=
  ⟨Rect.unit (s := S192x1280) ![0, 256 * n] S192x256.size (inb_out n hn), P⟩

theorem ypiece_at (n : ℕ) (hn : n < 5) (P : S192x256.Idx → EReal) (G : Fin 192 → Fin 1280 → EReal) (hP : ∀ p l, P (ix2 p l) = G p ⟨256 * n + l.val, by omega⟩)
    (x : S192x256.Idx) : (ypiece n hn P).2 x = (fun y : S192x1280.Idx => G (y 0) (y 1)) ((ypiece n hn P).1.emb x) := by
  obtain ⟨p, l, rfl⟩ : ∃ (p : Fin 192) (l : Fin 256), x = ix2 p l := ⟨x 0, x 1, by funext a; fin_cases a <;> rfl⟩
  refine (hP p l).trans ?_
  refine congr (congrArg G (Fin.ext ?_)) (Fin.ext ?_)
  · show p.val = 0 + 1 * p.val; omega
  · show 256 * n + l.val = 256 * n + 1 * l.val; omega

theorem ymem (n : ℕ) (hn : n < 5) (P : S192x256.Idx → EReal) (p : Fin 192) (m : Fin 1280) (hm : 256 * n ≤ m.val ∧ m.val < 256 * n + 256) :
    (ix2 p m : S192x1280.Idx) ∈ (ypiece n hn P).1.set := by
  rw [Rect.mem_set_unit]
  intro a; fin_cases a
  · show 0 ≤ p.val ∧ p.val < 0 + 192; omega
  · exact hm

theorem five_pieces (G : Fin 192 → Fin 1280 → EReal) (P0 P1 P2 P3 P4 : S192x256.Idx → EReal) (f : yH.view.ty.Contents (Elt Ideal))
    (h0 : ∀ p l, P0 (ix2 p l) = G p ⟨256 * 0 + l.val, by omega⟩) (h1 : ∀ p l, P1 (ix2 p l) = G p ⟨256 * 1 + l.val, by omega⟩)
    (h2 : ∀ p l, P2 (ix2 p l) = G p ⟨256 * 2 + l.val, by omega⟩) (h3 : ∀ p l, P3 (ix2 p l) = G p ⟨256 * 3 + l.val, by omega⟩)
    (h4 : ∀ p l, P4 (ix2 p l) = G p ⟨256 * 4 + l.val, by omega⟩) (p : Fin 192) (m : Fin 1280) :
    yH.view.read (Elt Ideal) (yH.view.writes (Elt Ideal) f [ypiece 4 (by omega) P4, ypiece 3 (by omega) P3, ypiece 2 (by omega) P2, ypiece 1 (by omega) P1, ypiece 0 (by omega) P0]) (ix2 p m) = G p m := by
  refine View.read_writes_apply_of_pieces (Val := Elt Ideal) yH.view f (fun y : S192x1280.Idx => G (y 0) (y 1)) _ ?_ (ix2 p m) ?_
  · intro q hq
    simp only [List.mem_cons, List.not_mem_nil, or_false] at hq
    rcases hq with rfl | rfl | rfl | rfl | rfl
    · exact ypiece_at 4 _ P4 G h4
    · exact ypiece_at 3 _ P3 G h3
    · exact ypiece_at 2 _ P2 G h2
    · exact ypiece_at 1 _ P1 G h1
    · exact ypiece_at 0 _ P0 G h0
  · by_cases c4 : 1024 ≤ m.val
    · exact ⟨_, by simp, ymem 4 (by omega) P4 p m (by omega)⟩
    by_cases c3 : 768 ≤ m.val
    · exact ⟨ypiece 3 (by omega) P3, by simp, ymem 3 (by omega) P3 p m (by omega)⟩
    by_cases c2 : 512 ≤ m.val
    · exact ⟨ypiece 2 (by omega) P2, by simp, ymem 2 (by omega) P2 p m (by omega)⟩
    by_cases c1 : 256 ≤ m.val
    · exact ⟨ypiece 1 (by omega) P1, by simp, ymem 1 (by omega) P1 p m (by omega)⟩
    · exact ⟨ypiece 0 (by omega) P0, by simp, ymem 0 (by omega) P0 p m (by omega)⟩

/-- The three results. -/
noncomputable def yRes : S192x1280.Idx → EReal := fun i => yAt c f0 f1 f2 f3 f4 f5 (i 0) (i 1)
noncomputable def xcRes : S24x8x2560.Idx → EReal := fun i => qv (row c f0 ⟨8 * (i 0).val + (i 1).val, by have h0 : (i 0).val < 24 := (i 0).isLt; have h1 : (i 1).val < 8 := (i 1).isLt; omega⟩) (i 2)
noncomputable def xsRes : S2x8x12.Idx → EReal := fun i => sv (row c f0 (pix (i 0) (i 2) (i 1)))

theorem ext_y (f g : S192x1280.Idx → EReal) (h : ∀ p n, f (ix2 p n) = g (ix2 p n)) : f = g := by
  funext i
  obtain ⟨p, n, rfl⟩ : ∃ (p : Fin 192) (n : Fin 1280), i = ix2 p n := ⟨i 0, i 1, by funext a; fin_cases a <;> rfl⟩
  exact h p n
theorem ext_xc (f g : S24x8x2560.Idx → EReal) (h : ∀ a b l, f (ix3 a b l) = g (ix3 a b l)) : f = g := by
  funext i
  obtain ⟨a, b, l, rfl⟩ : ∃ (a : Fin 24) (b : Fin 8) (l : Fin 2560), i = ix3 a b l := ⟨i 0, i 1, i 2, by funext a; fin_cases a <;> rfl⟩
  exact h a b l
theorem ext_xs (f g : S2x8x12.Idx → EReal) (h : ∀ a b l, f (ix3 a b l) = g (ix3 a b l)) : f = g := by
  funext i
  obtain ⟨a, b, l, rfl⟩ : ∃ (a : Fin 2) (b : Fin 8) (l : Fin 12), i = ix3 a b l := ⟨i 0, i 1, i 2, by funext a; fin_cases a <;> rfl⟩
  exact h a b l

theorem leaves_spec (W : Bf (F := Ideal) c yH × Bf (F := Ideal) c xcH × Bf (F := Ideal) c xsH) (hW : Leaves c f0 f1 f2 f3 f4 f5 W) :
    W.1 = (yRes c f0 f1 f2 f3 f4 f5 : S192x1280.Idx → EReal) ∧ W.2.1 = (xcRes c f0 : S24x8x2560.Idx → EReal) ∧ W.2.2 = (xsRes c f0 : S2x8x12.Idx → EReal) := by
  obtain ⟨o0, o1, o2, d0, d1, d2, d3, d4, d5, d6, d7, d8, d9, d10, d11, d12, d13, d14, rfl⟩ := hW
  refine ⟨?_, ?_, ?_⟩
  · refine ext_y _ _ fun p m => ?_
    exact five_pieces (yAt c f0 f1 f2 f3 f4 f5) _ _ _ _ _ _ (out0 c f0 f1 f2 f3 f4 f5 d0 d1 d2 d3 d4 d5 d14) (out1 c f0 f1 f2 f3 f4 f5 d0 d1 d2 d3 d4 d5 d14)
      (out2 c f0 f1 f2 f3 f4 f5 d0 d1 d2 d3 d4 d5 d14) (out3 c f0 f1 f2 f3 f4 f5 d0 d1 d2 d3 d4 d5 d14) (out4 c f0 f1 f2 f3 f4 f5 d0 d1 d2 d3 d4 d5 d14) p m
  · refine ext_xc _ _ fun g h l => ?_
    have e := congrFun (View.read_write_univ (Val := Elt Ideal) (v := xcH.view) o1 (dma111 (F := Ideal) c f0 d0 d7)) (ix3 g h l)
    exact e.trans (xc_at c f0 d0 d7 g h l)
  · refine ext_xs _ _ fun b h w => ?_
    have e := congrFun (View.read_write_univ (Val := Elt Ideal) (v := xsH.view) o2 (dma111_1 (F := Ideal) c f0 d0 d8)) (ix3 b h w)
    exact e.trans (xs_at c f0 d0 d8 b h w)

end

end Cert.KernelIdeal.Hand

end
-- ==== Proof.RunIdeal.lean ====
/-
  The run of the whole program with its three results named: the region leaves `yRes`, `xcRes` and `xsRes` of the operands the host
  lines before it lay out, and the host lines after it lay the first two out again (`run`).
-/
module

public import proofs.«01_k».proof.Proof.FrameIdeal
public import proofs.«01_k».proof.Proof.Leaves

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (Pipeline.UD sig nD τ) ℕ

variable (m : (ℓ : Loc nD τ sig) → Buf (Elt Ideal) ℓ) (ρ : Dev nD → PrngReg)

/-- The region's three results. -/
noncomputable def yEnd (c : Dev nD) : S192x1280.Idx → EReal := yRes c (V m c main_v1) (V m c main_v2) (V m c main_v3) (V m c main_v4) (V m c main_v6) (V m c main_arg5)
noncomputable def xcEnd (c : Dev nD) : S24x8x2560.Idx → EReal := xcRes c (V m c main_v1)
noncomputable def xsEnd (c : Dev nD) : S2x8x12.Idx → EReal := xsRes c (V m c main_v1)

/-- What the buffers hold after the region. -/
noncomputable def Gend (c : Dev nD) : (b : Ref sig .tc) → Buf (Elt Ideal) ((c : Thread nD τ).loc b) :=
  Function.update (Function.update (Function.update (V m c) main_v7_0 (yEnd m c)) main_v7_1 (xcEnd m c)) main_v7_2 (xsEnd m c)

theorem Gend_y (c : Dev nD) : Gend m c main_v7_0 = yEnd m c :=
  (Function.update_of_ne (by decide) _ _).trans ((Function.update_of_ne (by decide) _ _).trans (Function.update_self _ _ _))
theorem Gend_xc (c : Dev nD) : Gend m c main_v7_1 = xcEnd m c :=
  (Function.update_of_ne (by decide) _ _).trans (Function.update_self _ _ _)
theorem Gend_xs (c : Dev nD) : Gend m c main_v7_2 = xsEnd m c := Function.update_self _ _ _

/-- The region's invariant at a point: before it the results as the region finds them, after it at `Gend`. -/
noncomputable abbrev inv (c : Dev nD) (G : (c : Dev nD) → (b : Ref sig .tc) → Buf (Elt Ideal) ((c.tc : Thread nD τ).loc b)) : sProp 𝕄 :=
  Pipeline.ΦDRV osem0 (cfg0.spec) H0 R0 (V m) G c

noncomputable def datsV : (p : Fin 1) → (c : Dev nD) → Dat τ (Elt Ideal) Unit ℕ (Pipeline.UD sig nD τ) ℕ (cfgs p) c := fun _ c =>
  { A := fun w => w.elim0
    after := fun w => w.elim0
    Φ := fun k => if k.val = 0 then inv m c (V m) else inv m c (Gend m)
    q := fun w => w.elim0
    owed := fun _ => 0 }

theorem phi_at (c : Dev nD) (k : Fin (cfg0.N + 1)) : (datsV m 0 c).Φ k = if k.val = 0 then inv m c (V m) else inv m c (Gend m) := rfl
theorem phi_start (c : Dev nD) : (datsV m 0 c).Φ 0 = inv m c (V m) := (phi_at m c 0).trans (if_pos rfl)
theorem phi_end (c : Dev nD) : (datsV m 0 c).Φ (Fin.last cfg0.N) = inv m c (Gend m) := (phi_at m c _).trans (if_neg (by decide))

theorem sound_bodyV (c : Dev nD) (t : Fin cfg0.N) :
    iprop(inv m c (V m) ∗ (datsV m 0 c).owesAt () t.castSucc)
      ⊢ wp Idealize.ShloMosaic.frame (wpE (defs₀ (F := Ideal)) Variants.none c none) Set.univ (bodyAt0 t) fun _ =>
          iprop(inv m c (Gend m) ∗ (datsV m 0 c).owesAt () t.succ) := by
  unfold Pipeline.Dat.owesAt
  rw [show (datsV m 0 c).owed t.castSucc = 0 from rfl, show (datsV m 0 c).owed t.succ = 0 from rfl]
  unfold inv Pipeline.ΦDRV
  rw [operands_eq, results_eq, results_eq, scratch_eq]
  iintro ⟨⟨S, C, H, O0, O1, O2⟩, ⟨%W0, -, HW⟩⟩
  ihave C := (cells0_of_ownSems0 c) $$ C
  iapply (body_wp c _ _ _ _ _ _ _ _ _ W0 t _)
  isplitl [S]; · iexact S
  isplitl [C]; · iexact C
  isplitl [H]; · iexact H
  isplitl [O0]; · iexact O0
  isplitl [O1]; · iexact O1
  isplitl [O2]; · iexact O2
  isplitl [HW]; · iexact HW
  iintro ⟨⟨S, ⟨%W', HW⟩⟩, C, H, ⟨%W, %hW, O0, O1, O2⟩⟩
  ihave C := (ownSems0_of_cells0 c) $$ C
  have hs := leaves_spec c _ _ _ _ _ _ W hW
  rw [show W.1 = Gend m c main_v7_0 from hs.1.trans (Gend_y m c).symm, show W.2.1 = Gend m c main_v7_1 from hs.2.1.trans (Gend_xc m c).symm,
    show W.2.2 = Gend m c main_v7_2 from hs.2.2.trans (Gend_xs m c).symm]
  isplitr [HW]
  · isplitl [S]; · iexact S
    isplitl [C]; · iexact C
    isplitl [H]; · iexact H
    isplitl [O0]; · iexact O0
    isplitl [O1]; · iexact O1
    iexact O2
  iexists W'; isplitr; · ipureintro; exact fun _ _ => Or.inl trivial
  iexact HW

theorem body_obligationV (c : Dev nD) : BodyObligation (datsV m 0 c) (defs₀ (F := Ideal)) Variants.none () Set.univ := fun t => by
  have h0 : t.val = 0 := by have := t.isLt; have e : (cfgs 0).N = 1 := by decide
                            omega
  rw [defs₀_row, Finset.univ_eq_empty (α := Fin cfg0.W), BI.bigSep_empty, BI.bigSep_empty,
    show (datsV m 0 c).Φ t.castSucc = inv m c (V m) from (phi_at m c _).trans (if_pos h0),
    show (datsV m 0 c).Φ t.succ = inv m c (Gend m) from (phi_at m c _).trans (if_neg (Nat.succ_ne_zero _))]
  refine triple_restated (sound_bodyV m c t) rfl ?_ fun _ => ?_
  · iintro ⟨P, Q, -⟩
    isplitl [P]; · iexact P
    iexact Q
  · iintro ⟨P, Q⟩
    isplitl [P]; · iexact P
    isplitl [Q]; · iexact Q
    iempintro

/-- What a buffer holds after the host lines that follow the region. -/
noncomputable abbrev endOf (c : Dev nD) (b : Ref sig .tc) : Buf (Elt Ideal) ((c : Thread nD τ).loc b) :=
  StableHlo.after ([hostOps1] : List (List (HloOp τ sig (Elt Ideal)))).flatten
    (Pipeline.withArrays (cfg0.spec) c (Pipeline.withR (V0 m c) R0 c (Gend m c)) fun w => (datsV m 0 c).arrAt w cfg0.N) (Proc.devRef .tc b)

set_option backward.isDefEq.respectTransparency.types false in
theorem run_mainV : θ_run defs (onTc (τ := τ) (main (F := Ideal))) (s₀ m ρ)
    (fun r => ∀ c : Dev nD, ∀ b ∈ Pipeline.restRefs sig (cfg0.spec), r.2.mem ((c : Thread nD τ).loc b) = endOf m c b) :=
  Pipeline.θ_run_frame_dmaR_aroundV (Q' := _) cfgs (datsV m) (0 : Fin 1) launch0 osem0 defs₀ Variants.none ownSemFacts0 H0 R0 H0_sub R0_sub m ρ main
    (hbody := fun c => (body_obligationV m c).loose) (hshare := fun c => (datsV m 0 c).share_full fun w => w.elim0)
    (howed := fun _ _ => rfl) (V₀ := V0 m) (opss := [hostOps1]) (hsub := sfx_sub) (hfresh := sfx_fresh) (hkeep := sfx_keeps) (G := Gend m)
    (hmain := hmainD m) (hA := fun _ w => w.elim0)
    (hin := fun c => Entails.of_eq (phi_start m c).symm)
    (hout := fun c => Entails.of_eq (phi_end m c))
    (hQ' := fun r h c b hb => (h.1 c).2 b hb)

theorem mem_rest (b : Ref sig .tc) (h : b ∈ Pipeline.restRefs sig (cfg0.spec) := by decide) : b ∈ Pipeline.restRefs sig (cfg0.spec) := h

theorem end_R (c : Dev nD) (b : Ref sig .tc) (hb : b ∈ R0) :
    Pipeline.withArrays (cfg0.spec) c (Pipeline.withR (V0 m c) R0 c (Gend m c)) (fun w => (datsV m 0 c).arrAt w cfg0.N) (Proc.devRef .tc b) = Gend m c b :=
  (Pipeline.withArrays_of_ne _ c _ _ b fun w => w.elim0).trans (Pipeline.withR_of_mem _ _ _ _ b hb)
theorem end_V (c : Dev nD) (b : Ref sig .tc) (hb : b ∉ R0) :
    Pipeline.withArrays (cfg0.spec) c (Pipeline.withR (V0 m c) R0 c (Gend m c)) (fun w => (datsV m 0 c).arrAt w cfg0.N) (Proc.devRef .tc b) = V m c b :=
  (Pipeline.withArrays_of_ne _ c _ _ b fun w => w.elim0).trans (Pipeline.withR_of_not_mem _ _ _ _ b hb)

theorem tail_keeps (U : Valuation τ sig (Elt Ideal)) (b : Ref sig .tc) (hb : b ∉ T0) :
    StableHlo.after ([hostOps1] : List (List (HloOp τ sig (Elt Ideal)))).flatten U (Proc.devRef .tc b) = U (Proc.devRef .tc b) := by
  refine StableHlo.after_of_forall_not_mem (b := Proc.devRef .tc b) _ _ fun op hop hw => hb ?_
  refine tail_writes (F := Ideal) hostOps1 (List.mem_singleton.2 rfl) op ?_ b hw
  simpa only [List.flatten_cons, List.flatten_nil, List.append_nil] using hop

theorem tail_y (U : Valuation τ sig (Elt Ideal)) :
    StableHlo.after ([hostOps1] : List (List (HloOp τ sig (Elt Ideal)))).flatten U (Proc.devRef .tc main_v9)
      = transpose S2x8x12x1280 [0, 2, 1, 3] (shapeCast S2x12x8x1280 (U (Proc.devRef .tc main_v7_0) : S192x1280.Idx → EReal) shapeCasts_S192x1280_S2x12x8x1280) transposes_S2x12x8x1280_S2x8x12x1280_0_2_1_3 := by
  unfold hostOps1
  simp only [List.flatten_cons, List.flatten_nil, List.append_nil]
  after_results
  all_goals rfl
theorem tail_xc (U : Valuation τ sig (Elt Ideal)) :
    StableHlo.after ([hostOps1] : List (List (HloOp τ sig (Elt Ideal)))).flatten U (Proc.devRef .tc main_v11)
      = transpose S2x8x12x2560 [0, 2, 1, 3] (shapeCast S2x12x8x2560 (U (Proc.devRef .tc main_v7_1) : S24x8x2560.Idx → EReal) shapeCasts_S24x8x2560_S2x12x8x2560) transposes_S2x12x8x2560_S2x8x12x2560_0_2_1_3 := by
  unfold hostOps1
  simp only [List.flatten_cons, List.flatten_nil, List.append_nil]
  after_results
  all_goals rfl

end Cert.KernelIdeal.Hand

end
-- ==== Proof.Operands.lean ====
/-
  The operands the host lines lay out, read at an index: each is one entry of an argument.
-/
module

public import proofs.«01_k».proof.Proof.RunIdeal
public import Idealize.ShloMosaic.Lib.Pointwise

@[expose] public section

set_option maxRecDepth 16384

noncomputable section

namespace Cert.KernelIdeal.Hand

open Cert.KernelIdeal Cert.KernelIdeal.Gen Cert.Shift Cert.Quant
open Idealize.ShloMosaic Idealize.ShloMosaic.TcCoe Idealize.ShloMosaic.Tactic
open Idealize.SL Idealize.SL.Sem

/-! ## The layouts at an index -/

theorem lay_x {α : Type} (x : S2x8x12x2560.Idx → α) (p : Fin 192) (l : Fin 2560) :
    shapeCast S192x2560 (transpose S2x12x8x2560 [0, 2, 1, 3] x transposes_S2x8x12x2560_S2x12x8x2560_0_2_1_3) shapeCasts_S2x12x8x2560_S192x2560 (ix2 p l)
      = x (ix4 (⟨p.val / 96, by omega⟩ : Fin 2) (⟨p.val % 8, by omega⟩ : Fin 8) (⟨p.val / 8 % 12, by omega⟩ : Fin 12) l) := by
  pointwise

theorem lay_w {α : Type} (x : S3x3x2560x1280.Idx → α) (t : Fin 9) (k : Fin 2560) (n : Fin 1280) :
    shapeCast S9x2560x1280 x shapeCasts_S3x3x2560x1280_S9x2560x1280 (ix3 t k n)
      = x (ix4 (⟨t.val / 3, by omega⟩ : Fin 3) (⟨t.val % 3, by omega⟩ : Fin 3) k n) := by
  pointwise

theorem lay_v {α : Type} (x : S1280.Idx → α) (n : Fin 1280) :
    shapeCast S1x1280 x shapeCasts_S1280_S1x1280 (ix2 0 n) = x (ix1 n) := by
  pointwise

theorem lay_d {α : Type} (x : S3x3x2560x64.Idx → α) (r : Fin 576) (k : Fin 2560) :
    shapeCast S576x2560 (transpose S3x3x64x2560 [0, 1, 3, 2] x transposes_S3x3x2560x64_S3x3x64x2560_0_1_3_2) shapeCasts_S3x3x64x2560_S576x2560 (ix2 r k)
      = x (ix4 (⟨r.val / 192, by omega⟩ : Fin 3) (⟨r.val / 64 % 3, by omega⟩ : Fin 3) k (⟨r.val % 64, by omega⟩ : Fin 64)) := by
  pointwise

theorem lay_y {α : Type} (x : S192x1280.Idx → α) (b : Fin 2) (h : Fin 8) (w : Fin 12) (n : Fin 1280) :
    transpose S2x8x12x1280 [0, 2, 1, 3] (shapeCast S2x12x8x1280 x shapeCasts_S192x1280_S2x12x8x1280) transposes_S2x12x8x1280_S2x8x12x1280_0_2_1_3 (ix4 b h w n)
      = x (ix2 (pix b w h) n) := by
  pointwise [pix]
  exact congrArg (fun p : Fin 192 => x (ix2 p n)) (Fin.ext (by show b.val * 96 + w.val * 8 + h.val = (b.val * 12 + w.val) * 8 + h.val; omega))

theorem lay_xc {α : Type} (x : S24x8x2560.Idx → α) (b : Fin 2) (h : Fin 8) (w : Fin 12) (l : Fin 2560) :
    transpose S2x8x12x2560 [0, 2, 1, 3] (shapeCast S2x12x8x2560 x shapeCasts_S24x8x2560_S2x12x8x2560) transposes_S2x12x8x2560_S2x8x12x2560_0_2_1_3 (ix4 b h w l)
      = x (ix3 (⟨b.val * 12 + w.val, by omega⟩ : Fin 24) h l) := by
  pointwise

variable (m : (ℓ : Loc nD τ sig) → Buf (Elt Ideal) ℓ) (c : Dev nD)

/-! ## The arguments -/

/-- The image. -/
noncomputable def a0 : S2x8x12x2560.Idx → EReal := m ((c : Thread nD τ).loc main_arg0)
/-- The 3x3 weights. -/
noncomputable def a1 : S3x3x2560x1280.Idx → EReal := m ((c : Thread nD τ).loc main_arg1)
/-- The weights' scales. -/
noncomputable def a2 : S1280.Idx → EReal := m ((c : Thread nD τ).loc main_arg2)
/-- The bias. -/
noncomputable def a3 : S1280.Idx → EReal := m ((c : Thread nD τ).loc main_arg3)
/-- The branch's first matrix. -/
noncomputable def a4 : S3x3x2560x64.Idx → EReal := m ((c : Thread nD τ).loc main_arg4)
/-- The branch's second matrix. -/
noncomputable def a5 : S64x1280.Idx → EReal := m ((c : Thread nD τ).loc main_arg5)

/-! ## The operands -/

theorem V_main_v1 : V m c main_v1 = shapeCast S192x2560 (transpose S2x12x8x2560 [0, 2, 1, 3] (a0 m c) transposes_S2x8x12x2560_S2x12x8x2560_0_2_1_3) shapeCasts_S2x12x8x2560_S192x2560 := by
  show StableHlo.after ([hostOps0] : List (List (HloOp τ sig (Elt Ideal)))).flatten (fun b => m (c, b)) (Proc.devRef .tc main_v1) = _
  unfold hostOps0
  simp only [List.flatten_cons, List.flatten_nil, List.append_nil]
  after_results
  all_goals rfl
theorem V_main_v2 : V m c main_v2 = shapeCast S9x2560x1280 (a1 m c) shapeCasts_S3x3x2560x1280_S9x2560x1280 := by
  show StableHlo.after ([hostOps0] : List (List (HloOp τ sig (Elt Ideal)))).flatten (fun b => m (c, b)) (Proc.devRef .tc main_v2) = _
  unfold hostOps0
  simp only [List.flatten_cons, List.flatten_nil, List.append_nil]
  after_results
  all_goals rfl
theorem V_main_v3 : V m c main_v3 = shapeCast S1x1280 (a2 m c) shapeCasts_S1280_S1x1280 := by
  show StableHlo.after ([hostOps0] : List (List (HloOp τ sig (Elt Ideal)))).flatten (fun b => m (c, b)) (Proc.devRef .tc main_v3) = _
  unfold hostOps0
  simp only [List.flatten_cons, List.flatten_nil, List.append_nil]
  after_results
  all_goals rfl
theorem V_main_v4 : V m c main_v4 = shapeCast S1x1280 (a3 m c) shapeCasts_S1280_S1x1280 := by
  show StableHlo.after ([hostOps0] : List (List (HloOp τ sig (Elt Ideal)))).flatten (fun b => m (c, b)) (Proc.devRef .tc main_v4) = _
  unfold hostOps0
  simp only [List.flatten_cons, List.flatten_nil, List.append_nil]
  after_results
  all_goals rfl
theorem V_main_v6 : V m c main_v6 = shapeCast S576x2560 (transpose S3x3x64x2560 [0, 1, 3, 2] (a4 m c) transposes_S3x3x2560x64_S3x3x64x2560_0_1_3_2) shapeCasts_S3x3x64x2560_S576x2560 := by
  show StableHlo.after ([hostOps0] : List (List (HloOp τ sig (Elt Ideal)))).flatten (fun b => m (c, b)) (Proc.devRef .tc main_v6) = _
  unfold hostOps0
  simp only [List.flatten_cons, List.flatten_nil, List.append_nil]
  after_results
  all_goals rfl

/-- A pixel's channels. -/
noncomputable def px (b : Fin 2) (h : Fin 8) (w : Fin 12) : Fin 2560 → EReal := fun l => a0 m c (ix4 b h w l)

theorem row_pix (b : Fin 2) (w : Fin 12) (h : Fin 8) : row c (V m c main_v1) (pix b w h) = px m c b h w := by
  funext l
  refine (congrFun (V_main_v1 m c) (ix2 (pix b w h) l)).trans ((lay_x (a0 m c) (pix b w h) l).trans ?_)
  have e1 : (⟨(pix b w h).val / 96, by omega⟩ : Fin 2) = b := Fin.ext (by show ((b.val * 12 + w.val) * 8 + h.val) / 96 = b.val; omega)
  have e2 : (⟨(pix b w h).val % 8, by omega⟩ : Fin 8) = h := Fin.ext (by show ((b.val * 12 + w.val) * 8 + h.val) % 8 = h.val; omega)
  have e3 : (⟨(pix b w h).val / 8 % 12, by omega⟩ : Fin 12) = w := Fin.ext (by show ((b.val * 12 + w.val) * 8 + h.val) / 8 % 12 = w.val; omega)
  rw [e1, e2, e3]; rfl

theorem wt_at (t : Fin 9) (k : Fin 2560) (n : Fin 1280) :
    wt c (V m c main_v2) t k n = a1 m c (ix4 (⟨t.val / 3, by omega⟩ : Fin 3) (⟨t.val % 3, by omega⟩ : Fin 3) k n) :=
  (congrFun (V_main_v2 m c) (ix3 t k n)).trans (lay_w (a1 m c) t k n)

theorem wscale_at (n : Fin 1280) : wscale c (V m c main_v3) n = a2 m c (ix1 n) := (congrFun (V_main_v3 m c) (ix2 0 n)).trans (lay_v (a2 m c) n)
theorem bias_at (n : Fin 1280) : bias c (V m c main_v4) n = a3 m c (ix1 n) := (congrFun (V_main_v4 m c) (ix2 0 n)).trans (lay_v (a3 m c) n)

theorem ld_at (t : Fin 9) (k : Fin 64) (l : Fin 2560) :
    ld c (V m c main_v6) ⟨64 * t.val + k.val, by omega⟩ l = a4 m c (ix4 (⟨t.val / 3, by omega⟩ : Fin 3) (⟨t.val % 3, by omega⟩ : Fin 3) l k) := by
  refine (congrFun (V_main_v6 m c) (ix2 ⟨64 * t.val + k.val, by omega⟩ l)).trans ((lay_d (a4 m c) ⟨64 * t.val + k.val, by omega⟩ l).trans ?_)
  have e1 : (⟨(64 * t.val + k.val) / 192, by omega⟩ : Fin 3) = ⟨t.val / 3, by omega⟩ := Fin.ext (by show (64 * t.val + k.val) / 192 = t.val / 3; omega)
  have e2 : (⟨(64 * t.val + k.val) / 64 % 3, by omega⟩ : Fin 3) = ⟨t.val % 3, by omega⟩ := Fin.ext (by show (64 * t.val + k.val) / 64 % 3 = t.val % 3; omega)
  have e3 : (⟨(64 * t.val + k.val) % 64, by omega⟩ : Fin 64) = k := Fin.ext (by show (64 * t.val + k.val) % 64 = k.val; omega)
  show a4 m c (ix4 (⟨(64 * t.val + k.val) / 192, by omega⟩ : Fin 3) (⟨(64 * t.val + k.val) / 64 % 3, by omega⟩ : Fin 3) l (⟨(64 * t.val + k.val) % 64, by omega⟩ : Fin 64)) = _
  rw [e1, e2, e3]

theorem lu_at (k : Fin 64) (n : Fin 1280) : lu c (V m c main_arg5) k n = a5 m c (ix2 k n) := congrFun (V_main_arg5 m c) (ix2 k n)

/-! ## The results of the run -/

/-- The three results of a run, and its arguments unchanged. -/
theorem run (ρ : Dev nD → PrngReg) : θ_run defs (onTc (τ := τ) (main (F := Ideal))) ⟨m, fun _ => 0, ρ⟩ (fun r => ∀ c : Dev nD,
      r.2.mem ((c.tc : Thread nD τ).loc main_v9) = transpose S2x8x12x1280 [0, 2, 1, 3] (shapeCast S2x12x8x1280 (yEnd m c) shapeCasts_S192x1280_S2x12x8x1280) transposes_S2x12x8x1280_S2x8x12x1280_0_2_1_3
      ∧ r.2.mem ((c.tc : Thread nD τ).loc main_v11) = transpose S2x8x12x2560 [0, 2, 1, 3] (shapeCast S2x12x8x2560 (xcEnd m c) shapeCasts_S24x8x2560_S2x12x8x2560) transposes_S2x12x8x2560_S2x8x12x2560_0_2_1_3
      ∧ r.2.mem ((c.tc : Thread nD τ).loc main_v7_2) = xsEnd m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨
      (h c main_v9 (Pipeline.mem_restRefs_of main_v9 (by decide) (fun w => w.elim0))).trans ((tail_y _).trans (congrArg (fun f : S192x1280.Idx → EReal => transpose S2x8x12x1280 [0, 2, 1, 3] (shapeCast S2x12x8x1280 f shapeCasts_S192x1280_S2x12x8x1280) transposes_S2x12x8x1280_S2x8x12x1280_0_2_1_3) ((end_R m c main_v7_0 (by decide)).trans (Gend_y m c)))),
      (h c main_v11 (Pipeline.mem_restRefs_of main_v11 (by decide) (fun w => w.elim0))).trans ((tail_xc _).trans (congrArg (fun f : S24x8x2560.Idx → EReal => transpose S2x8x12x2560 [0, 2, 1, 3] (shapeCast S2x12x8x2560 f shapeCasts_S24x8x2560_S2x12x8x2560) transposes_S2x12x8x2560_S2x8x12x2560_0_2_1_3) ((end_R m c main_v7_1 (by decide)).trans (Gend_xc m c)))),
      (h c main_v7_2 (Pipeline.mem_restRefs_of main_v7_2 (by decide) (fun w => w.elim0))).trans ((tail_keeps _ main_v7_2 (by decide)).trans ((end_R m c main_v7_2 (by decide)).trans (Gend_xs m c))),
      (h c main_arg0 (Pipeline.mem_restRefs_of main_arg0 (by decide) (fun w => w.elim0))).trans ((tail_keeps _ main_arg0 (by decide)).trans ((end_V m c main_arg0 (by decide)).trans (V_main_arg0 m c))),
      (h c main_arg1 (Pipeline.mem_restRefs_of main_arg1 (by decide) (fun w => w.elim0))).trans ((tail_keeps _ main_arg1 (by decide)).trans ((end_V m c main_arg1 (by decide)).trans (V_main_arg1 m c))),
      (h c main_arg2 (Pipeline.mem_restRefs_of main_arg2 (by decide) (fun w => w.elim0))).trans ((tail_keeps _ main_arg2 (by decide)).trans ((end_V m c main_arg2 (by decide)).trans (V_main_arg2 m c))),
      (h c main_arg3 (Pipeline.mem_restRefs_of main_arg3 (by decide) (fun w => w.elim0))).trans ((tail_keeps _ main_arg3 (by decide)).trans ((end_V m c main_arg3 (by decide)).trans (V_main_arg3 m c))),
      (h c main_arg4 (Pipeline.mem_restRefs_of main_arg4 (by decide) (fun w => w.elim0))).trans ((tail_keeps _ main_arg4 (by decide)).trans ((end_V m c main_arg4 (by decide)).trans (V_main_arg4 m c))),
      (h c main_arg5 (Pipeline.mem_restRefs_of main_arg5 (by decide) (fun w => w.elim0))).trans ((tail_keeps _ main_arg5 (by decide)).trans ((end_V m c main_arg5 (by decide)).trans (V_main_arg5 m c)))⟩)
    (run_mainV m ρ)

end Cert.KernelIdeal.Hand

end
-- ==== Proof.RefVal.lean ====
/-
  The reference's three results at an index: the codes and scales of a pixel, and the convolution as a sum of nine taps over the
  zero-padded image, in plain sums and products.
-/
module

public import proofs.«01_k».proof.Proof.Gen.ReferenceIdeal.Value
public import proofs.«01_k».proof.Proof.Quant
public import Idealize.ShloMosaic.Lib.Pointwise

@[expose] public section

set_option maxRecDepth 16384

noncomputable section

namespace Cert.ReferenceIdeal.Hand

open Cert.ReferenceIdeal Cert.ReferenceIdeal.Gen Cert.Quant
open Idealize.ShloMosaic Idealize.ShloMosaic.TcCoe Idealize.ShloMosaic.Tactic

/-- The scale of a pixel. -/
noncomputable def rsc (x : S2x8x12x2560.Idx → EReal) (b : Fin 2) (h : Fin 8) (w : Fin 12) : EReal := rscale (amax fun l => x (ix4 b h w l))
/-- The code of one channel of a pixel. -/
noncomputable def rco (x : S2x8x12x2560.Idx → EReal) (b : Fin 2) (h : Fin 8) (w : Fin 12) (l : Fin 2560) : EReal :=
  min (Ideal.ofBits .f32 1138753536#32) (max (Ideal.ofBits .f32 3286237184#32) (x (ix4 b h w l) * Ideal.div 1 (rsc x b h w)))

theorem pay3_at (x : FVec Ideal S2x8x12x2560 .bf16) (b : Fin 2) (h : Fin 8) (w : Fin 12) :
    k0_pay3 (F := Ideal) x (ix4 b h w 0) = rsc x b h w := by
  pointwise [k0_pay3, k0_pay2]
  rfl

theorem pay4_at (x : FVec Ideal S2x8x12x2560 .bf16) (b : Fin 2) (h : Fin 8) (w : Fin 12) (l : Fin 2560) :
    k0_pay4 (F := Ideal) x (ix4 b h w l) = rco x b h w l := by
  unfold rco
  rw [← pay3_at]
  pointwise [k0_pay4, k0_pay2]

theorem pay5_at (x : FVec Ideal S2x8x12x2560 .bf16) (b : Fin 2) (h : Fin 8) (w : Fin 12) :
    k0_pay5 (F := Ideal) x (ix3 b h w) = rsc x b h w := by
  rw [← pay3_at]
  generalize hY : k0_pay3 (F := Ideal) x = Y
  unfold k0_pay5
  rw [hY]
  pointwise

theorem pay6_at (s : FVec Ideal S2x8x12x1 .f32) (q : FVec Ideal S2x8x12x2560 .fp8e4m3) (b : Fin 2) (h : Fin 8) (w : Fin 12) (l : Fin 2560) :
    k0_pay6 (F := Ideal) s q (ix4 b h w l) = q (ix4 b h w l) * s (ix4 b h w 0) := by
  pointwise [k0_pay6]

/-- An image with a border of zeros, read at a row and a column of the bordered image. -/
noncomputable def pad (g : S2x8x12x2560.Idx → EReal) (b : Fin 2) (i : Fin 10) (j : Fin 14) (l : Fin 2560) : EReal :=
  if hh : (1 ≤ i.val ∧ i.val ≤ 8) ∧ 1 ≤ j.val ∧ j.val ≤ 12 then g (ix4 b ⟨i.val - 1, by omega⟩ ⟨j.val - 1, by omega⟩ l) else 0

theorem pay13_at (g : FVec Ideal S2x8x12x2560 .bf16) (b : Fin 2) (i : Fin 10) (j : Fin 14) (l : Fin 2560) :
    k0_pay13 (F := Ideal) g (ix4 b i j l) = pad g b i j l := by
  have hz : (((0#32 : BitVec 32).toInt : ℝ) : EReal) = 0 := by simp
  generalize hR : pad g b i j l = R
  pointwise [k0_pay13]
  rw [← hR]
  unfold pad
  split_ifs <;> first | rfl | (exfalso; omega) | exact hz | rw [dif_pos (show (1 ≤ i.val ∧ i.val ≤ 8) ∧ 1 ≤ j.val ∧ j.val ≤ 12 by omega)]

theorem pay8_eq (s : FVec Ideal S2x8x12x1 .f32) (q : FVec Ideal S2x8x12x2560 .fp8e4m3) :
    k0_pay8 (F := Ideal) s q = k0_pay13 (F := Ideal) (k0_pay6 (F := Ideal) s q) := rfl

/-- One tap of the convolution over a bordered image, at a pixel in row-major order. -/
noncomputable def tapP {N : ℕ} (P : S2x10x14x2560.Idx → EReal) (W : (⟨4, ![3, 3, 2560, N]⟩ : Shape).Idx → EReal) (kh kw : Fin 3) (p : Fin 192) (n : Fin N) : EReal :=
  ∑ k : Fin 2560, P (ix4 (⟨p.val / 96, by omega⟩ : Fin 2) (⟨kh.val + p.val / 12 % 8, by omega⟩ : Fin 10) (⟨kw.val + p.val % 12, by omega⟩ : Fin 14) k) * W (ix4 kh kw k n)

/-- The same at a pixel given by image, row and column. -/
noncomputable def tapB {N : ℕ} (P : S2x10x14x2560.Idx → EReal) (W : (⟨4, ![3, 3, 2560, N]⟩ : Shape).Idx → EReal) (kh kw : Fin 3) (b : Fin 2) (h : Fin 8) (w : Fin 12) (n : Fin N) : EReal :=
  ∑ k : Fin 2560, P (ix4 b (⟨kh.val + h.val, by omega⟩ : Fin 10) (⟨kw.val + w.val, by omega⟩ : Fin 14) k) * W (ix4 kh kw k n)

theorem tapP_eq {N : ℕ} (P : S2x10x14x2560.Idx → EReal) (W : (⟨4, ![3, 3, 2560, N]⟩ : Shape).Idx → EReal) (kh kw : Fin 3) (b : Fin 2) (h : Fin 8) (w : Fin 12) (n : Fin N)
    (p : Fin 192) (hp : p.val = b.val * 96 + h.val * 12 + w.val) : tapP P W kh kw p n = tapB P W kh kw b h w n := by
  have e1 : (⟨p.val / 96, by omega⟩ : Fin 2) = b := Fin.ext (by show p.val / 96 = b.val; omega)
  have e2 : (⟨kh.val + p.val / 12 % 8, by omega⟩ : Fin 10) = ⟨kh.val + h.val, by omega⟩ := Fin.ext (by show kh.val + p.val / 12 % 8 = kh.val + h.val; omega)
  have e3 : (⟨kw.val + p.val % 12, by omega⟩ : Fin 14) = ⟨kw.val + w.val, by omega⟩ := Fin.ext (by show kw.val + p.val % 12 = kw.val + w.val; omega)
  unfold tapP tapB
  rw [e1, e2, e3]

theorem pay9_at (s : FVec Ideal S2x8x12x1 .f32) (q : FVec Ideal S2x8x12x2560 .fp8e4m3) (W : FVec Ideal S3x3x2560x1280 .fp8e4m3) (p : Fin 192) (n : Fin 1280) :
    k0_pay9 (F := Ideal) s q W (ix2 p n)
      = tapP (k0_pay8 (F := Ideal) s q) W 0 0 p n + tapP (k0_pay8 (F := Ideal) s q) W 0 1 p n + tapP (k0_pay8 (F := Ideal) s q) W 0 2 p n
        + tapP (k0_pay8 (F := Ideal) s q) W 1 0 p n + tapP (k0_pay8 (F := Ideal) s q) W 1 1 p n := by
  generalize hP : k0_pay8 (F := Ideal) s q = P
  unfold k0_pay9
  rw [hP]
  pointwise [k0_pay7, tapP]

theorem pay10_at (s : FVec Ideal S2x8x12x1 .f32) (q : FVec Ideal S2x8x12x2560 .fp8e4m3) (p : Fin 192) (k : Fin 2560) :
    k0_pay10 (F := Ideal) s q (ix2 p k)
      = k0_pay8 (F := Ideal) s q (ix4 (⟨p.val / 96, by omega⟩ : Fin 2) (⟨1 + p.val / 12 % 8, by omega⟩ : Fin 10) (⟨2 + p.val % 12, by omega⟩ : Fin 14) k) := by
  generalize hP : k0_pay8 (F := Ideal) s q = P
  unfold k0_pay10
  rw [hP]
  pointwise

theorem pay11_at (W : FVec Ideal S3x3x2560x1280 .fp8e4m3) (k : Fin 2560) (n : Fin 1280) :
    k0_pay11 (F := Ideal) W (ix4 0 0 k n) = W (ix4 1 2 k n) := by
  pointwise [k0_pay11, k0_pay7]

theorem pay12_at (W : FVec Ideal S3x3x2560x1280 .bf16) (P : FVec Ideal S2x10x14x2560 .bf16) (A : FVec Ideal S192x1280 .f32) (X : FVec Ideal S192x2560 .bf16)
    (Y : FVec Ideal S1x1x2560x1280 .bf16) (ws bs : FVec Ideal S1280 .f32) (b : Fin 2) (h : Fin 8) (w : Fin 12) (n : Fin 1280) (p : Fin 192)
    (hp : p.val = b.val * 96 + h.val * 12 + w.val) :
    k0_pay12 (F := Ideal) W P A X Y ws bs (ix4 b h w n)
      = (A (ix2 p n) + (∑ k : Fin 2560, X (ix2 p k) * Y (ix4 0 0 k n)) + tapB P W 2 0 b h w n + tapB P W 2 1 b h w n + tapB P W 2 2 b h w n) * ws (ix1 n) + bs (ix1 n) := by
  obtain ⟨p, hlt⟩ := p
  replace hp : p = b.val * 96 + h.val * 12 + w.val := hp
  subst hp
  pointwise [k0_pay12, tapB]

theorem pay14_at (g : FVec Ideal S2x8x12x2560 .bf16) (W : FVec Ideal S3x3x2560x64 .bf16) (p : Fin 192) (n : Fin 64) :
    k0_pay14 (F := Ideal) g W (ix2 p n) = tapP (k0_pay13 (F := Ideal) g) W 0 0 p n := by
  generalize hP : k0_pay13 (F := Ideal) g = P
  unfold k0_pay14
  rw [hP]
  pointwise [tapP]

theorem pay15_at (W : FVec Ideal S3x3x2560x64 .bf16) (P : FVec Ideal S2x10x14x2560 .bf16) (A : FVec Ideal S192x64 .f32) (p : Fin 192) (n : Fin 64) :
    k0_pay15 (F := Ideal) W P A (ix2 p n)
      = A (ix2 p n) + tapP P W 0 1 p n + tapP P W 0 2 p n + tapP P W 1 0 p n + tapP P W 1 1 p n + tapP P W 1 2 p n + tapP P W 2 0 p n + tapP P W 2 1 p n + tapP P W 2 2 p n := by
  pointwise [k0_pay15, tapP]

theorem pay1_at (A : FVec Ideal S2x8x12x1280 .f32) (D : FVec Ideal S192x64 .bf16) (U : FVec Ideal S64x1280 .bf16) (b : Fin 2) (h : Fin 8) (w : Fin 12) (n : Fin 1280) (p : Fin 192)
    (hp : p.val = b.val * 96 + h.val * 12 + w.val) :
    k0_pay1 (F := Ideal) A D U (ix4 b h w n) = A (ix4 b h w n) + Ideal.ofBits .f32 0x3E000000#32 * ∑ k : Fin 64, D (ix2 p k) * U (ix2 k n) := by
  obtain ⟨p, hlt⟩ := p
  replace hp : p = b.val * 96 + h.val * 12 + w.val := hp
  subst hp
  pointwise [k0_pay1]

end Cert.ReferenceIdeal.Hand

end
-- ==== Proof.Scaled.lean ====
/-
  The one step of algebra between the two programs: the reference multiplies a pixel's codes by the pixel's scale and sums against
  the weights, the kernel sums the codes against the weights and multiplies the sum by the scale. The scale is a positive real
  number, so on the extended reals the two agree; past the image's border both give zero.
-/
module

public import proofs.«01_k».proof.Proof.Operands
public import proofs.«01_k».proof.Proof.RefVal
public import proofs.«01_k».proof.Pre_normal_scales

@[expose] public section

set_option maxRecDepth 16384

noncomputable section

namespace Cert.Scaled

open Cert.Shift Cert.Quant
open Cert.KernelIdeal (S2x8x12x2560 nD τ sig main_v1 main_v2 main_v3 main_v4 main_v6 main_arg0 main_arg1 main_arg2 main_arg3 main_arg4 main_arg5)
open Cert.KernelIdeal.Gen (V)
open Cert.KernelIdeal.Hand
open Cert.ReferenceIdeal.Hand
open Idealize.ShloMosaic

/-! ## A positive real factor moves through a sum -/

theorem mul_add_pos (s : ℝ) (hs : 0 < s) (x y : EReal) : (s : EReal) * (x + y) = (s : EReal) * x + (s : EReal) * y :=
  EReal.left_distrib_of_nonneg_of_ne_top (by exact_mod_cast hs.le) (EReal.coe_ne_top s) x y

theorem sum_mul_pos {ι : Type} (s : ℝ) (hs : 0 < s) (T : Finset ι) (f : ι → EReal) : (∑ i ∈ T, f i) * (s : EReal) = ∑ i ∈ T, (s : EReal) * f i := by
  classical
  rw [mul_comm]
  induction T using Finset.induction_on with
  | empty => simp
  | insert a T ha ih => rw [Finset.sum_insert ha, Finset.sum_insert ha, mul_add_pos s hs, ih]

theorem dot_scale {n : ℕ} (s : ℝ) (hs : 0 < s) (q w : Fin n → EReal) : (∑ k, q k * w k) * (s : EReal) = ∑ k, (q k * (s : EReal)) * w k :=
  (sum_mul_pos s hs _ _).trans (Finset.sum_congr rfl fun k _ => by rw [mul_comm (q k) (s : EReal), mul_assoc])

/-! ## A pixel's scale and codes -/

variable (m : (ℓ : Loc nD τ sig) → Buf (Elt Ideal) ℓ) (c : Dev nD)

/-- Every pixel's greatest absolute value is zero or gives a normal scale. -/
def AllOk : Prop := ∀ (b : Fin 2) (h : Fin 8) (w : Fin 12), Ok (amax (px m c b h w))

theorem scale_px (hok : AllOk m c) (b : Fin 2) (h : Fin 8) (w : Fin 12) :
    ∃ s : ℝ, 0 < s ∧ rsc (a0 m c) b h w = s ∧ sv (px m c b h w) = s ∧ ∀ l, qv (px m c b h w) l = rco (a0 m c) b h w l := by
  obtain ⟨s, hs, e1, e2, e3⟩ := scale_eq _ (hok b h w)
  refine ⟨s, hs, e1, e2, fun l => ?_⟩
  have e1' : rsc (a0 m c) b h w = s := e1
  unfold qv rco
  rw [e1', div_one_coe s hs, e3]
  rfl

/-- The reference's scaled image. -/
noncomputable def scaled (i : S2x8x12x2560.Idx) : EReal := rco (a0 m c) (i 0) (i 1) (i 2) (i 3) * rsc (a0 m c) (i 0) (i 1) (i 2)

/-! ## One tap -/

theorem tap_eq (hok : AllOk m c) (kh kw : Fin 3) (W : Fin 2560 → EReal) (b : Fin 2) (w : Fin 12) (h : Fin 8) :
    shv kh kw (fun p => (∑ k : Fin 2560, qv (row c (V m c main_v1) p) k * W k) * plane c (V m c main_v1) kh p) b w h
      = ∑ k : Fin 2560, pad (scaled m c) b ⟨kh.val + h.val, by omega⟩ ⟨kw.val + w.val, by omega⟩ k * W k := by
  have hz : ¬ ((1 ≤ kh.val + h.val ∧ kh.val + h.val ≤ 8) ∧ 1 ≤ kw.val + w.val ∧ kw.val + w.val ≤ 12) →
      ∑ k : Fin 2560, pad (scaled m c) b ⟨kh.val + h.val, by omega⟩ ⟨kw.val + w.val, by omega⟩ k * W k = 0 := fun hn => by
    refine Finset.sum_eq_zero fun k _ => ?_
    rw [show pad (scaled m c) b ⟨kh.val + h.val, by omega⟩ ⟨kw.val + w.val, by omega⟩ k = 0 from dif_neg hn, zero_mul]
  unfold shv
  by_cases hw : 1 ≤ w.val + kw.val ∧ w.val + kw.val ≤ 12
  · rw [dif_pos hw]
    beta_reduce
    have hw' : 1 ≤ kw.val + w.val ∧ kw.val + w.val ≤ 12 := ⟨by omega, by omega⟩
    have hm : (pix b ⟨w.val + kw.val - 1, by omega⟩ (rowOf kh h)).val % 8 = (h.val + kh.val + 7) % 8 := by
      show ((b.val * 12 + (w.val + kw.val - 1)) * 8 + (h.val + kh.val + 7) % 8) % 8 = _
      omega
    by_cases hh : 1 ≤ kh.val + h.val ∧ kh.val + h.val ≤ 8
    · have hr : rowOf kh h = ⟨kh.val + h.val - 1, by omega⟩ := Fin.ext (by show (h.val + kh.val + 7) % 8 = kh.val + h.val - 1; omega)
      have hp : plane c (V m c main_v1) kh (pix b ⟨w.val + kw.val - 1, by omega⟩ (rowOf kh h)) = sv (row c (V m c main_v1) (pix b ⟨w.val + kw.val - 1, by omega⟩ (rowOf kh h))) := by
        unfold plane
        rw [hm, if_neg, if_neg]
        · rintro ⟨e, e'⟩
          have : kh.val = 2 := congrArg Fin.val e
          omega
        · rintro ⟨e, e'⟩
          have : kh.val = 0 := congrArg Fin.val e
          omega
      rw [hp, hr, row_pix]
      obtain ⟨s, hs, e1, e2, e3⟩ := scale_px m c hok b ⟨kh.val + h.val - 1, by omega⟩ ⟨w.val + kw.val - 1, by omega⟩
      rw [e2, dot_scale s hs]
      refine Finset.sum_congr rfl fun k _ => ?_
      rw [e3, show pad (scaled m c) b ⟨kh.val + h.val, by omega⟩ ⟨kw.val + w.val, by omega⟩ k = scaled m c (ix4 b ⟨kh.val + h.val - 1, by omega⟩ ⟨kw.val + w.val - 1, by omega⟩ k)
        from dif_pos ⟨hh, hw'⟩]
      have hc : (⟨w.val + kw.val - 1, by omega⟩ : Fin 12) = ⟨kw.val + w.val - 1, by omega⟩ := Fin.ext (by show w.val + kw.val - 1 = kw.val + w.val - 1; omega)
      rw [hc] at e1 ⊢
      show _ = rco (a0 m c) b ⟨kh.val + h.val - 1, by omega⟩ ⟨kw.val + w.val - 1, by omega⟩ k * rsc (a0 m c) b ⟨kh.val + h.val - 1, by omega⟩ ⟨kw.val + w.val - 1, by omega⟩ * W k
      rw [e1]
    · rw [hz (fun hn => hh hn.1)]
      have hp : plane c (V m c main_v1) kh (pix b ⟨w.val + kw.val - 1, by omega⟩ (rowOf kh h)) = 0 := by
        unfold plane
        rw [hm]
        by_cases h0 : kh.val = 0
        · exact if_pos ⟨Fin.ext h0, by omega⟩
        · have h2 : kh.val = 2 := by omega
          rw [if_neg (fun e => h0 (congrArg Fin.val e.1))]
          exact if_pos ⟨Fin.ext h2, by omega⟩
      rw [hp, mul_zero]
  · rw [dif_neg hw, hz (fun hn => hw ⟨by omega, by omega⟩)]

/-! ## The reference's taps -/

theorem scaled_eq : Cert.ReferenceIdeal.Gen.k0_pay6 (F := Ideal) (Cert.ReferenceIdeal.Gen.k0_pay3 (F := Ideal) (a0 m c)) (Cert.ReferenceIdeal.Gen.k0_pay4 (F := Ideal) (a0 m c)) = scaled m c := by
  funext i
  obtain ⟨b, h, w, l, rfl⟩ : ∃ b h w l, i = ix4 b h w l := ⟨i 0, i 1, i 2, i 3, by funext a; fin_cases a <;> rfl⟩
  rw [pay6_at, pay3_at, pay4_at]
  rfl

/-- The reference's bordered image. -/
noncomputable def bordered : Cert.ReferenceIdeal.S2x10x14x2560.Idx → EReal :=
  Cert.ReferenceIdeal.Gen.k0_pay13 (F := Ideal) (scaled m c)

theorem bordered_at (b : Fin 2) (i : Fin 10) (j : Fin 14) (l : Fin 2560) : bordered m c (ix4 b i j l) = pad (scaled m c) b i j l := pay13_at _ _ _ _ _

theorem tapSum_eq (hok : AllOk m c) (t : Fin 9) (kh kw : Fin 3) (hk : (⟨t.val / 3, by omega⟩ : Fin 3) = kh) (hk' : (⟨t.val % 3, by omega⟩ : Fin 3) = kw)
    (b : Fin 2) (h : Fin 8) (w : Fin 12) (n : Fin 1280) :
    tapSum c (V m c main_v1) (V m c main_v2) t kh kw b w h n = tapB (bordered m c) (a1 m c) kh kw b h w n := by
  refine (tap_eq m c hok kh kw (fun k => wt c (V m c main_v2) t k n) b w h).trans (Finset.sum_congr rfl fun k _ => ?_)
  rw [bordered_at, wt_at, hk, hk']

theorem tapLow_eq (hok : AllOk m c) (t : Fin 9) (kh kw : Fin 3) (hk : (⟨t.val / 3, by omega⟩ : Fin 3) = kh) (hk' : (⟨t.val % 3, by omega⟩ : Fin 3) = kw)
    (b : Fin 2) (h : Fin 8) (w : Fin 12) (n : Fin 64) :
    tapLow c (V m c main_v1) (V m c main_v6) t kh kw b w h n = tapB (bordered m c) (a4 m c) kh kw b h w n := by
  refine (tap_eq m c hok kh kw (fun k => ld c (V m c main_v6) ⟨64 * t.val + n.val, by omega⟩ k) b w h).trans (Finset.sum_congr rfl fun k _ => ?_)
  rw [bordered_at, ld_at, hk, hk']

/-- The nine taps in the reference's order are the nine taps in the kernel's. -/
theorem nine_wide (t0 t1 t2 t3 t4 t5 t6 t7 t8 : EReal) :
    t4 + t0 + t1 + t2 + t3 + t5 + t6 + t7 + t8 = t0 + t1 + t2 + t3 + t4 + t5 + t6 + t7 + t8 := by abel
theorem nine_low (t0 t1 t2 t3 t4 t5 t6 t7 t8 : EReal) :
    (0 + t0 + t2 + t4 + t6 + t8) + (0 + t1 + t3 + t5 + t7) = t0 + t1 + t2 + t3 + t4 + t5 + t6 + t7 + t8 := by abel

theorem conv_eq (hok : AllOk m c) (b : Fin 2) (h : Fin 8) (w : Fin 12) (n : Fin 1280) :
    conv c (V m c main_v1) (V m c main_v2) b w h n
      = tapB (bordered m c) (a1 m c) 0 0 b h w n + tapB (bordered m c) (a1 m c) 0 1 b h w n + tapB (bordered m c) (a1 m c) 0 2 b h w n + tapB (bordered m c) (a1 m c) 1 0 b h w n + tapB (bordered m c) (a1 m c) 1 1 b h w n + tapB (bordered m c) (a1 m c) 1 2 b h w n + tapB (bordered m c) (a1 m c) 2 0 b h w n + tapB (bordered m c) (a1 m c) 2 1 b h w n + tapB (bordered m c) (a1 m c) 2 2 b h w n := by
  unfold conv
  rw [tapSum_eq m c hok 4 1 1 rfl rfl, tapSum_eq m c hok 0 0 0 rfl rfl, tapSum_eq m c hok 1 0 1 rfl rfl, tapSum_eq m c hok 2 0 2 rfl rfl, tapSum_eq m c hok 3 1 0 rfl rfl, tapSum_eq m c hok 5 1 2 rfl rfl, tapSum_eq m c hok 6 2 0 rfl rfl, tapSum_eq m c hok 7 2 1 rfl rfl, tapSum_eq m c hok 8 2 2 rfl rfl]
  exact nine_wide _ _ _ _ _ _ _ _ _

theorem lora_eq (hok : AllOk m c) (b : Fin 2) (h : Fin 8) (w : Fin 12) (k : Fin 64) :
    lora c (V m c main_v1) (V m c main_v6) b w h k
      = tapB (bordered m c) (a4 m c) 0 0 b h w k + tapB (bordered m c) (a4 m c) 0 1 b h w k + tapB (bordered m c) (a4 m c) 0 2 b h w k + tapB (bordered m c) (a4 m c) 1 0 b h w k + tapB (bordered m c) (a4 m c) 1 1 b h w k + tapB (bordered m c) (a4 m c) 1 2 b h w k + tapB (bordered m c) (a4 m c) 2 0 b h w k + tapB (bordered m c) (a4 m c) 2 1 b h w k + tapB (bordered m c) (a4 m c) 2 2 b h w k := by
  unfold lora
  rw [tapLow_eq m c hok 0 0 0 rfl rfl, tapLow_eq m c hok 2 0 2 rfl rfl, tapLow_eq m c hok 4 1 1 rfl rfl, tapLow_eq m c hok 6 2 0 rfl rfl, tapLow_eq m c hok 8 2 2 rfl rfl, tapLow_eq m c hok 1 0 1 rfl rfl, tapLow_eq m c hok 3 1 0 rfl rfl, tapLow_eq m c hok 5 1 2 rfl rfl, tapLow_eq m c hok 7 2 1 rfl rfl]
  exact nine_low _ _ _ _ _ _ _ _ _

end Cert.Scaled

end
-- ==== Proof.Scales.lean ====
/-
  What the precondition says of a pixel.
-/
module

public import proofs.«01_k».proof.Proof.Quant
public import proofs.«01_k».proof.Proof.Gen.Pre_normal_scales
public import Idealize.ShloMosaic.Lib.Pointwise

@[expose] public section

set_option maxRecDepth 16384

noncomputable section

namespace Cert.Pre_normal_scales.Hand

open Cert.Pre_normal_scales Cert.Pre_normal_scales.Gen Cert.Quant
open Idealize.ShloMosaic Idealize.ShloMosaic.Tactic

theorem ok_of_word (A : EReal)
    (h : IntOp.ori (BitVec.ofBool (decide (A = 0)))
      (IntOp.andi (BitVec.ofBool (decide (Ideal.ofBits .f32 8388608#32 ≤ A * Ideal.ofBits .f32 991054117#32)))
        (BitVec.ofBool (decide (A ≤ Ideal.ofBits .f32 2139029504#32)))) = 1#1) : Ok A := by
  by_cases h0 : A = 0
  · exact Or.inl h0
  · by_cases h1 : Ideal.ofBits .f32 8388608#32 ≤ A * Ideal.ofBits .f32 991054117#32
    · by_cases h2 : A ≤ Ideal.ofBits .f32 2139029504#32
      · exact Or.inr ⟨h1, h2⟩
      · rw [decide_eq_false h0, decide_eq_true h1, decide_eq_false h2] at h
        exact absurd h (by decide)
    · rw [decide_eq_false h0, decide_eq_false h1] at h
      by_cases h2 : A ≤ Ideal.ofBits .f32 2139029504#32
      · rw [decide_eq_true h2] at h
        exact absurd h (by decide)
      · rw [decide_eq_false h2] at h
        exact absurd h (by decide)

theorem ok_of (x0 : FVec Ideal S2x8x12x2560 .bf16) (x1 : FVec Ideal S3x3x2560x1280 .fp8e4m3) (x2 x3 : FVec Ideal S1280 .f32)
    (x4 : FVec Ideal S3x3x2560x64 .bf16) (x5 : FVec Ideal S64x1280 .bf16) (h : fn (F := Ideal) x0 x1 x2 x3 x4 x5 = fun _ => 1#1)
    (b : Fin 2) (i : Fin 8) (j : Fin 12) : Ok (amax fun l => x0 (ix4 b i j l)) := by
  have h1 : fn (F := Ideal) x0 x1 x2 x3 x4 x5 (ix3 b i j) = 1#1 := congrFun h _
  revert h1
  pointwise [fn]
  intro h1
  exact ok_of_word _ h1

end Cert.Pre_normal_scales.Hand

end
-- ==== Proof.Results.lean ====
/-
  The three results of the kernel are the three results of the reference.
-/
module

public import proofs.«01_k».proof.Proof.Scaled
public import proofs.«01_k».proof.Proof.Scales

@[expose] public section

set_option maxRecDepth 16384

noncomputable section

namespace Cert.Scaled

open Cert.Shift Cert.Quant
open Cert.KernelIdeal (S2x8x12x2560 S2x8x12x1280 S2x12x8x1280 S2x12x8x2560 S2x8x12 nD τ sig main_v1 main_v2 main_v3 main_v4 main_v6 main_arg5)
open Cert.KernelIdeal.Gen (V transposes_S2x12x8x1280_S2x8x12x1280_0_2_1_3 transposes_S2x12x8x2560_S2x8x12x2560_0_2_1_3 shapeCasts_S192x1280_S2x12x8x1280 shapeCasts_S24x8x2560_S2x12x8x2560)
open Cert.KernelIdeal.Hand
open Cert.ReferenceIdeal.Hand
open Cert.ReferenceIdeal.Gen (k0_pay3 k0_pay4 k0_pay5 k0_pay6 k0_pay7 k0_pay8 k0_pay9 k0_pay10 k0_pay11 k0_pay12 k0_pay13 k0_pay14 k0_pay15 k0_pay16 k0_pay17 k0_pay18 k0_pay1)
open Cert.ReferenceIdeal.Value (G6 G7 G8 hz0)
open Idealize.ShloMosaic

variable (m : (ℓ : Loc nD τ sig) → Buf (Elt Ideal) ℓ) (c : Dev nD)

/-! ## The reference's intermediate values -/

theorem pay16_eq {F : FTy → Type} [FloatOps F] (x0 : Vec F Cert.ReferenceIdeal.S2x8x12x2560 .bf16) (x1 : Vec F Cert.ReferenceIdeal.S3x3x2560x1280 .fp8e4m3) (x2 x3 : Vec F Cert.ReferenceIdeal.S1280 .f32)
    (x4 : Vec F Cert.ReferenceIdeal.S3x3x2560x64 .bf16) (x5 : Vec F Cert.ReferenceIdeal.S64x1280 .bf16) : k0_pay16 x0 x1 x2 x3 x4 x5 = k0_pay3 x0 := by
  unfold k0_pay16
  rw [View.ld_unit_zero (S := Cert.ReferenceIdeal.S2x8x12x2560) hz0 _ x0]
theorem pay17_eq {F : FTy → Type} [FloatOps F] (x0 : Vec F Cert.ReferenceIdeal.S2x8x12x2560 .bf16) (x1 : Vec F Cert.ReferenceIdeal.S3x3x2560x1280 .fp8e4m3) (x2 x3 : Vec F Cert.ReferenceIdeal.S1280 .f32)
    (x4 : Vec F Cert.ReferenceIdeal.S3x3x2560x64 .bf16) (x5 : Vec F Cert.ReferenceIdeal.S64x1280 .bf16) : k0_pay17 x0 x1 x2 x3 x4 x5 = k0_pay4 x0 := by
  unfold k0_pay17
  rw [View.ld_unit_zero (S := Cert.ReferenceIdeal.S2x8x12x2560) hz0 _ x0]

/-- The bordered image, as the main convolution states it. -/
theorem pay8_bordered : k0_pay8 (F := Ideal) (k0_pay3 (F := Ideal) (a0 m c)) (k0_pay4 (F := Ideal) (a0 m c)) = bordered m c :=
  (pay8_eq _ _).trans (congrArg (k0_pay13 (F := Ideal)) (scaled_eq m c))

/-- The reference's main convolution, scaled and with the bias. -/
theorem main_at (b : Fin 2) (h : Fin 8) (w : Fin 12) (n : Fin 1280) :
    k0_pay12 (F := Ideal) (k0_pay7 (F := Ideal) (a1 m c)) (k0_pay8 (F := Ideal) (k0_pay3 (F := Ideal) (a0 m c)) (k0_pay4 (F := Ideal) (a0 m c)))
        (k0_pay9 (F := Ideal) (k0_pay3 (F := Ideal) (a0 m c)) (k0_pay4 (F := Ideal) (a0 m c)) (a1 m c))
        (k0_pay10 (F := Ideal) (k0_pay3 (F := Ideal) (a0 m c)) (k0_pay4 (F := Ideal) (a0 m c))) (k0_pay11 (F := Ideal) (a1 m c)) (a2 m c) (a3 m c) (ix4 b h w n)
      = (tapB (bordered m c) (a1 m c) 0 0 b h w n + tapB (bordered m c) (a1 m c) 0 1 b h w n + tapB (bordered m c) (a1 m c) 0 2 b h w n + tapB (bordered m c) (a1 m c) 1 0 b h w n + tapB (bordered m c) (a1 m c) 1 1 b h w n + tapB (bordered m c) (a1 m c) 1 2 b h w n + tapB (bordered m c) (a1 m c) 2 0 b h w n + tapB (bordered m c) (a1 m c) 2 1 b h w n + tapB (bordered m c) (a1 m c) 2 2 b h w n) * a2 m c (ix1 n) + a3 m c (ix1 n) := by
  have hp : (⟨b.val * 96 + h.val * 12 + w.val, by omega⟩ : Fin 192).val = b.val * 96 + h.val * 12 + w.val := rfl
  refine (pay12_at _ _ _ _ _ _ _ b h w n ⟨b.val * 96 + h.val * 12 + w.val, by omega⟩ hp).trans ?_
  have e12 : (∑ k : Fin 2560, k0_pay10 (F := Ideal) (k0_pay3 (F := Ideal) (a0 m c)) (k0_pay4 (F := Ideal) (a0 m c)) (ix2 (⟨b.val * 96 + h.val * 12 + w.val, by omega⟩ : Fin 192) k)
        * k0_pay11 (F := Ideal) (a1 m c) (ix4 0 0 k n)) = tapB (bordered m c) (a1 m c) 1 2 b h w n := by
    refine Eq.trans (b := tapP (bordered m c) (a1 m c) 1 2 ⟨b.val * 96 + h.val * 12 + w.val, by omega⟩ n) (Finset.sum_congr rfl fun k _ => ?_) (tapP_eq _ _ _ _ b h w n _ hp)
    rw [pay10_at, pay11_at, pay8_bordered]
    rfl
  have e9 := pay9_at (k0_pay3 (F := Ideal) (a0 m c)) (k0_pay4 (F := Ideal) (a0 m c)) (a1 m c) ⟨b.val * 96 + h.val * 12 + w.val, by omega⟩ n
  rw [pay8_bordered, tapP_eq _ _ _ _ b h w n _ hp, tapP_eq _ _ _ _ b h w n _ hp, tapP_eq _ _ _ _ b h w n _ hp, tapP_eq _ _ _ _ b h w n _ hp, tapP_eq _ _ _ _ b h w n _ hp] at e9
  rw [e9, e12, pay8_bordered]
  rfl

/-- The reference's low-rank intermediate. -/
theorem low_at (b : Fin 2) (h : Fin 8) (w : Fin 12) (k : Fin 64) (p : Fin 192) (hp : p.val = b.val * 96 + h.val * 12 + w.val) :
    k0_pay15 (F := Ideal) (a4 m c) (bordered m c) (k0_pay14 (F := Ideal) (scaled m c) (a4 m c)) (ix2 p k)
      = tapB (bordered m c) (a4 m c) 0 0 b h w k + tapB (bordered m c) (a4 m c) 0 1 b h w k + tapB (bordered m c) (a4 m c) 0 2 b h w k + tapB (bordered m c) (a4 m c) 1 0 b h w k + tapB (bordered m c) (a4 m c) 1 1 b h w k + tapB (bordered m c) (a4 m c) 1 2 b h w k + tapB (bordered m c) (a4 m c) 2 0 b h w k + tapB (bordered m c) (a4 m c) 2 1 b h w k + tapB (bordered m c) (a4 m c) 2 2 b h w k := by
  refine (pay15_at _ _ _ p k).trans ?_
  have e : k0_pay14 (F := Ideal) (scaled m c) (a4 m c) (ix2 p k) = tapB (bordered m c) (a4 m c) 0 0 b h w k :=
    (pay14_at _ _ p k).trans (tapP_eq _ _ _ _ b h w k p hp)
  rw [e, tapP_eq _ _ _ _ b h w k p hp, tapP_eq _ _ _ _ b h w k p hp, tapP_eq _ _ _ _ b h w k p hp, tapP_eq _ _ _ _ b h w k p hp,
    tapP_eq _ _ _ _ b h w k p hp, tapP_eq _ _ _ _ b h w k p hp, tapP_eq _ _ _ _ b h w k p hp, tapP_eq _ _ _ _ b h w k p hp]

/-! ## The three results -/

theorem ext4 {a b d e : ℕ} {α : Type} (f g : (⟨4, ![a, b, d, e]⟩ : Shape).Idx → α) (h : ∀ i j k l, f (ix4 i j k l) = g (ix4 i j k l)) : f = g := by
  funext i
  have e : i = ix4 (i 0) (i 1) (i 2) (i 3) := by funext a; fin_cases a <;> rfl
  rw [e]; exact h _ _ _ _
theorem ext3 {a b d : ℕ} {α : Type} (f g : (⟨3, ![a, b, d]⟩ : Shape).Idx → α) (h : ∀ i j k, f (ix3 i j k) = g (ix3 i j k)) : f = g := by
  funext i
  have e : i = ix3 (i 0) (i 1) (i 2) := by funext a; fin_cases a <;> rfl
  rw [e]; exact h _ _ _

theorem yAt_pix (b : Fin 2) (h : Fin 8) (w : Fin 12) (n : Fin 1280) :
    yEnd m c (ix2 (pix b w h) n) = yOut c (V m c main_v1) (V m c main_v2) (V m c main_v3) (V m c main_v4) (V m c main_v6) (V m c main_arg5) b w h n := by
  have e1 : (⟨(pix b w h).val / 96, by omega⟩ : Fin 2) = b := Fin.ext (by show ((b.val * 12 + w.val) * 8 + h.val) / 96 = b.val; omega)
  have e2 : (⟨(pix b w h).val % 8, by omega⟩ : Fin 8) = h := Fin.ext (by show ((b.val * 12 + w.val) * 8 + h.val) % 8 = h.val; omega)
  have e3 : (⟨(pix b w h).val / 8 % 12, by omega⟩ : Fin 12) = w := Fin.ext (by show ((b.val * 12 + w.val) * 8 + h.val) / 8 % 12 = w.val; omega)
  show yAt c (V m c main_v1) (V m c main_v2) (V m c main_v3) (V m c main_v4) (V m c main_v6) (V m c main_arg5) (pix b w h) n = _
  unfold yAt
  rw [e1, e2, e3]

theorem result_y (hok : AllOk m c) :
    transpose S2x8x12x1280 [0, 2, 1, 3] (shapeCast S2x12x8x1280 (yEnd m c) shapeCasts_S192x1280_S2x12x8x1280) transposes_S2x12x8x1280_S2x8x12x1280_0_2_1_3
      = G6 (F := Ideal) (a0 m c) (a1 m c) (a2 m c) (a3 m c) (a4 m c) (a5 m c) := by
  refine ext4 _ _ fun b h w n => ?_
  refine (lay_y (yEnd m c) b h w n).trans ((yAt_pix m c b h w n).trans ?_)
  unfold yOut G6
  rw [conv_eq m c hok, wscale_at, bias_at, pay16_eq, pay17_eq,
    show k0_pay18 (F := Ideal) (a0 m c) (a1 m c) (a2 m c) (a3 m c) (a4 m c) (a5 m c) = scaled m c from by
      unfold k0_pay18; rw [pay16_eq, pay17_eq]; exact scaled_eq m c]
  have hp : (⟨b.val * 96 + h.val * 12 + w.val, by omega⟩ : Fin 192).val = b.val * 96 + h.val * 12 + w.val := rfl
  refine Eq.trans ?_ (pay1_at _ _ _ b h w n ⟨b.val * 96 + h.val * 12 + w.val, by omega⟩ hp).symm
  rw [main_at]
  refine Ideal.add_congr rfl (Ideal.mul_congr rfl (Finset.sum_congr rfl fun k _ => ?_))
  rw [lora_eq m c hok, lu_at]
  exact congrArg (· * a5 m c (ix2 k n)) (low_at m c b h w k _ hp).symm

theorem result_xc (hok : AllOk m c) :
    transpose S2x8x12x2560 [0, 2, 1, 3] (shapeCast S2x12x8x2560 (xcEnd m c) shapeCasts_S24x8x2560_S2x12x8x2560) transposes_S2x12x8x2560_S2x8x12x2560_0_2_1_3
      = G7 (F := Ideal) (a0 m c) (a1 m c) (a2 m c) (a3 m c) (a4 m c) (a5 m c) := by
  refine ext4 _ _ fun b h w l => ?_
  refine (lay_xc (xcEnd m c) b h w l).trans ?_
  have e : (⟨8 * (b.val * 12 + w.val) + h.val, by omega⟩ : Fin 192) = pix b w h := Fin.ext (by show 8 * (b.val * 12 + w.val) + h.val = (b.val * 12 + w.val) * 8 + h.val; omega)
  show qv (row c (V m c main_v1) ⟨8 * (b.val * 12 + w.val) + h.val, by omega⟩) l = k0_pay4 (F := Ideal) (a0 m c) (ix4 b h w l)
  obtain ⟨s, hs, e1, e2, e3⟩ := scale_px m c hok b h w
  rw [e, row_pix, e3, pay4_at]

theorem result_xs (hok : AllOk m c) : xsEnd m c = G8 (F := Ideal) (a0 m c) (a1 m c) (a2 m c) (a3 m c) (a4 m c) (a5 m c) := by
  refine ext3 _ _ fun b h w => ?_
  show sv (row c (V m c main_v1) (pix b w h)) = k0_pay5 (F := Ideal) (a0 m c) (ix3 b h w)
  obtain ⟨s, hs, e1, e2, e3⟩ := scale_px m c hok b h w
  rw [row_pix, e2, pay5_at, e1]

end Cert.Scaled

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.Gen.Pre_normal_scales
public import proofs.«01_k».proof.Proof.FrameKernel
public import proofs.«01_k».proof.Proof.FrameIdeal
public import proofs.«01_k».proof.Proof.Results
public import Idealize.ShloMosaic.Adequacy
public import Idealize.ShloMosaic.Init

@[expose] public section

noncomputable section

namespace Cert.Proof

open Idealize.ShloMosaic Idealize.SL.Sem Cert.Kernel

/-- Under the precondition the two programs end with the same three results. -/
theorem algebraic : Cert.algebraic_KernelIdeal_ReferenceIdeal_pre_normal_scales := by
  intro m g m' g' hpre hargs
  have hok : ∀ c : Dev Cert.KernelIdeal.nD, Cert.Scaled.AllOk m c := fun c b h w =>
    Cert.Pre_normal_scales.Hand.ok_of _ _ _ _ _ _ (hpre c) b h w
  refine ⟨fun c => Cert.ReferenceIdeal.Value.G6 (F := Ideal) (Cert.KernelIdeal.Hand.a0 m c) (Cert.KernelIdeal.Hand.a1 m c) (Cert.KernelIdeal.Hand.a2 m c) (Cert.KernelIdeal.Hand.a3 m c) (Cert.KernelIdeal.Hand.a4 m c) (Cert.KernelIdeal.Hand.a5 m c),
    fun c => Cert.ReferenceIdeal.Value.G7 (F := Ideal) (Cert.KernelIdeal.Hand.a0 m c) (Cert.KernelIdeal.Hand.a1 m c) (Cert.KernelIdeal.Hand.a2 m c) (Cert.KernelIdeal.Hand.a3 m c) (Cert.KernelIdeal.Hand.a4 m c) (Cert.KernelIdeal.Hand.a5 m c),
    fun c => Cert.ReferenceIdeal.Value.G8 (F := Ideal) (Cert.KernelIdeal.Hand.a0 m c) (Cert.KernelIdeal.Hand.a1 m c) (Cert.KernelIdeal.Hand.a2 m c) (Cert.KernelIdeal.Hand.a3 m c) (Cert.KernelIdeal.Hand.a4 m c) (Cert.KernelIdeal.Hand.a5 m c),
    (θ_run Cert.KernelIdeal.defs _ _).mono (fun r h c => ?_) (Cert.KernelIdeal.Hand.run m g),
    (θ_run Cert.ReferenceIdeal.defs _ _).mono (fun r h c => ?_) (Cert.ReferenceIdeal.Value.run m' g')⟩
  · obtain ⟨h0, h1, h2, h3⟩ := h c
    exact ⟨h0.trans (Cert.Scaled.result_y m c (hok c)), h1.trans (Cert.Scaled.result_xc m c (hok c)), h2.trans (Cert.Scaled.result_xs m c (hok c)), h3⟩
  · obtain ⟨h0, h1, h2, h3⟩ := h c
    obtain ⟨g0, g1, g2, g3, g4, g5⟩ := hargs c
    rw [g0, g1, g2, g3, g4, g5] at h0
    rw [g0, g1, g2, g3, g4, g5] at h1
    rw [g0, g1, g2, g3, g4, g5] at h2
    exact ⟨h0, h1, h2, h3⟩

theorem claim : Cert.Claim := ⟨Cert.Kernel.Gen.facts, Cert.KernelIdeal.Gen.facts, Cert.ReferenceIdeal.Gen.facts, Cert.Pre_normal_scales.Gen.facts,
  fun m ρ _ => Cert.Kernel.Hand.frame m ρ, fun m ρ _ => Cert.KernelIdeal.Hand.frame m ρ, fun m ρ _ => Cert.KernelIdeal.Hand.frame m ρ,
  fun m ρ _ => Cert.ReferenceIdeal.Gen.frame m ρ, fun m ρ _ => Cert.ReferenceIdeal.Gen.frame m ρ, trivial, algebraic⟩

end Cert.Proof

end
